-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4))
      ∧ r.2.sem = fun _ => 0)

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v54)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v54) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v97) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v26) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v34_0)) (v1 : (c : Dev Cert.InprojIdeal.nD) → Buf (Elt Ideal) ((c.tc : Thread Cert.InprojIdeal.nD Cert.InprojIdeal.τ).loc Cert.InprojIdeal.main_v34_1)) (v2 : (c : Dev Cert.InprojIdeal.nD) → Buf (Elt Ideal) ((c.tc : Thread Cert.InprojIdeal.nD Cert.InprojIdeal.τ).loc Cert.InprojIdeal.main_v34_2)) (v3 : (c : Dev Cert.InprojIdeal.nD) → Buf (Elt Ideal) ((c.tc : Thread Cert.InprojIdeal.nD Cert.InprojIdeal.τ).loc Cert.InprojIdeal.main_v34_3)) (v4 : (c : Dev Cert.InprojIdeal.nD) → Buf (Elt Ideal) ((c.tc : Thread Cert.InprojIdeal.nD Cert.InprojIdeal.τ).loc Cert.InprojIdeal.main_v34_4)) (v5 : (c : Dev Cert.InprojIdeal.nD) → Buf (Elt Ideal) ((c.tc : Thread Cert.InprojIdeal.nD Cert.InprojIdeal.τ).loc Cert.InprojIdeal.main_v34_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v34_0) = v0 c
          ∧ r.2.mem ((c.tc : Thread Cert.InprojIdeal.nD Cert.InprojIdeal.τ).loc Cert.InprojIdeal.main_v34_1) = v1 c
          ∧ r.2.mem ((c.tc : Thread Cert.InprojIdeal.nD Cert.InprojIdeal.τ).loc Cert.InprojIdeal.main_v34_2) = v2 c
          ∧ r.2.mem ((c.tc : Thread Cert.InprojIdeal.nD Cert.InprojIdeal.τ).loc Cert.InprojIdeal.main_v34_3) = v3 c
          ∧ r.2.mem ((c.tc : Thread Cert.InprojIdeal.nD Cert.InprojIdeal.τ).loc Cert.InprojIdeal.main_v34_4) = v4 c
          ∧ r.2.mem ((c.tc : Thread Cert.InprojIdeal.nD Cert.InprojIdeal.τ).loc Cert.InprojIdeal.main_v34_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v38) = v0 c
          ∧ r.2.mem ((c.tc : Thread Cert.InprojRefIdeal.nD Cert.InprojRefIdeal.τ).loc Cert.InprojRefIdeal.main_v41) = v1 c
          ∧ r.2.mem ((c.tc : Thread Cert.InprojRefIdeal.nD Cert.InprojRefIdeal.τ).loc Cert.InprojRefIdeal.main_v44) = v2 c
          ∧ r.2.mem ((c.tc : Thread Cert.InprojRefIdeal.nD Cert.InprojRefIdeal.τ).loc Cert.InprojRefIdeal.main_v33) = v3 c
          ∧ r.2.mem ((c.tc : Thread Cert.InprojRefIdeal.nD Cert.InprojRefIdeal.τ).loc Cert.InprojRefIdeal.main_v47) = v4 c
          ∧ r.2.mem ((c.tc : Thread Cert.InprojRefIdeal.nD Cert.InprojRefIdeal.τ).loc Cert.InprojRefIdeal.main_v50) = v5 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v65)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v65) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v67) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v8)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v8) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v41) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)) →
    ∃ (v0 : (c : Dev Cert.Ffn2Ideal.nD) → Buf (Elt Ideal) ((c.tc : Thread Cert.Ffn2Ideal.nD Cert.Ffn2Ideal.τ).loc Cert.Ffn2Ideal.main_v8)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v8) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v28) = v0 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hPle : Cert.Ple.Facts) (hPleIdeal : Cert.PleIdeal.Facts) (hPleRefIdeal : Cert.PleRefIdeal.Facts) (hFfn2 : Cert.Ffn2.Facts) (hFfn2Ideal : Cert.Ffn2Ideal.Facts) (hFfn2RefIdeal : Cert.Ffn2RefIdeal.Facts) (hPre_attn_finite : Cert.Pre_attn_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ple (hPle := hPle)
    ∧ quiescent_PleIdeal (hPleIdeal := hPleIdeal)
    ∧ quiescent_PleRefIdeal (hPleRefIdeal := hPleRefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Ple_PleIdeal
    ∧ algebraic_PleIdeal_PleRefIdeal (hPleIdeal := hPleIdeal) (hPleRefIdeal := hPleRefIdeal)
    ∧ preserves_Ffn2_Ffn2Ideal
    ∧ algebraic_Ffn2Ideal_Ffn2RefIdeal (hFfn2Ideal := hFfn2Ideal) (hFfn2RefIdeal := hFfn2RefIdeal)
-- ==== Pre_attn_finite.lean ====
abbrev S8192x2048 : Shape := ⟨2, ![8192, 2048]⟩
abbrev S1x8x15x31 : Shape := ⟨4, ![1, 8, 15, 31]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S1x8x15x31 : S_.BroadcastsInDim S1x8x15x31 (![] : Fin 0 → Fin S1x8x15x31.rank)

variable [Facts]

def fn {F : FTy → Type} [FloatOps F] (main_arg0 : FVec F S8192x2048 .bf16) (main_arg1 : FVec F S8192x2048 .bf16) (main_arg2 : FVec F S8192x2048 .bf16) (main_arg3 : FVec F S1x8x15x31 .f32) : IVec S8192x2048 1 × IVec S8192x2048 1 × IVec S1x8x15x31 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_v8 : FVec F S1x8x15x31 .f32 := Host.absf main_arg3
  let main_cst_1 : FVec F S_ .f32 := constant S_ .f32 0x7F800000#32
  let main_v9 : FVec F S1x8x15x31 .f32 := broadcastInDim S1x8x15x31 ![] bcast_S_S1x8x15x31 main_cst_1
  let main_v10 : IVec S1x8x15x31 1 := cmpf .olt main_v8 main_v9
  (main_v3, main_v7, main_v10)
-- ==== Attn.lean ====
abbrev S8192x2048 : Shape := ⟨2, ![8192, 2048]⟩
abbrev S1x8x15x31 : Shape := ⟨4, ![1, 8, 15, 31]⟩
abbrev S8x15x31 : Shape := ⟨3, ![8, 15, 31]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x8x1x1 : Shape := ⟨4, ![8, 8, 1, 1]⟩
abbrev S1x1x64x64 : Shape := ⟨4, ![1, 1, 64, 64]⟩
abbrev S8x8x64x64 : Shape := ⟨4, ![8, 8, 64, 64]⟩
abbrev S8x8x64x64x1 : Shape := ⟨5, ![8, 8, 64, 64, 1]⟩
abbrev S8x8x64x64x2 : Shape := ⟨5, ![8, 8, 64, 64, 2]⟩
abbrev S8x8x8x64x64 : Shape := ⟨5, ![8, 8, 8, 64, 64]⟩
abbrev S1x1x1x64x64 : Shape := ⟨5, ![1, 1, 1, 64, 64]⟩
abbrev S8x8x64x8x64 : Shape := ⟨5, ![8, 8, 64, 8, 64]⟩
abbrev S8x8x64x512 : Shape := ⟨4, ![8, 8, 64, 512]⟩
abbrev S64x512 : Shape := ⟨2, ![64, 512]⟩
abbrev S8192x512 : Shape := ⟨2, ![8192, 512]⟩
abbrev S1x8x64x512 : Shape := ⟨4, ![1, 8, 64, 512]⟩
abbrev S64x128 : Shape := ⟨2, ![64, 128]⟩
abbrev S512x128 : Shape := ⟨2, ![512, 128]⟩
abbrev S1x1x64x512 : Shape := ⟨4, ![1, 1, 64, 512]⟩

abbrev nBuf : Space → Nat
  | .hbm => 85
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S1x8x15x31, .f32⟩
  | .hbm, ⟨4, _⟩ => ⟨S8x15x31, .f32⟩
  | .hbm, ⟨5, _⟩ => ⟨S8, .i32⟩
  | .hbm, ⟨6, _⟩ => ⟨S8x1, .i32⟩
  | .hbm, ⟨7, _⟩ => ⟨S8, .i32⟩
  | .hbm, ⟨8, _⟩ => ⟨S1x8, .i32⟩
  | .hbm, ⟨9, _⟩ => ⟨S8x8, .i32⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S64, .i32⟩
  | .hbm, ⟨16, _⟩ => ⟨S64x1, .i32⟩
  | .hbm, ⟨17, _⟩ => ⟨S64, .i32⟩
  | .hbm, ⟨18, _⟩ => ⟨S1x64, .i32⟩
  | .hbm, ⟨19, _⟩ => ⟨S_, .i32⟩
  | .hbm, ⟨20, _⟩ => ⟨S64x1, .i32⟩
  | .hbm, ⟨21, _⟩ => ⟨S64x1, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S64x1, .i32⟩
  | .hbm, ⟨26, _⟩ => ⟨S64x1, .i32⟩
  | .hbm, ⟨27, _⟩ => ⟨S_, .i32⟩
  | .hbm, ⟨28, _⟩ => ⟨S64x1, .i32⟩
  | .hbm, ⟨29, _⟩ => ⟨S64x1, .i32⟩
  | .hbm, ⟨30, _⟩ => ⟨S64x64, .i32⟩
  | .hbm, ⟨31, _⟩ => ⟨S64x64, .i32⟩
  | .hbm, ⟨32, _⟩ => ⟨S64x64, .i1⟩
  | .hbm, ⟨33, _⟩ => ⟨S_, .i32⟩
  | .hbm, ⟨34, _⟩ => ⟨S64x1, .i32⟩
  | .hbm, ⟨35, _⟩ => ⟨S64x1, .i32⟩
  | .hbm, ⟨36, _⟩ => ⟨S64x64, .i32⟩
  | .hbm, ⟨37, _⟩ => ⟨S64x64, .i32⟩
  | .hbm, ⟨38, _⟩ => ⟨S64x64, .i1⟩
  | .hbm, ⟨39, _⟩ => ⟨S64x64, .i1⟩
  | .hbm, ⟨40, _⟩ => ⟨S64x64, .i32⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S64x64, .i32⟩
  | .hbm, ⟨45, _⟩ => ⟨S64x64, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S64x64, .i32⟩
  | .hbm, ⟨50, _⟩ => ⟨S64x64, .i32⟩
  | .hbm, ⟨51, _⟩ => ⟨S_, .i32⟩
  | .hbm, ⟨52, _⟩ => ⟨S64x64, .i32⟩
  | .hbm, ⟨53, _⟩ => ⟨S64x64, .i32⟩
  | .hbm, ⟨54, _⟩ => ⟨S8x8x1x1, .i32⟩
  | .hbm, ⟨55, _⟩ => ⟨S1x1x64x64, .i32⟩
  | .hbm, ⟨56, _⟩ => ⟨S_, .i32⟩
  | .hbm, ⟨57, _⟩ => ⟨S8x8x1x1, .i32⟩
  | .hbm, ⟨58, _⟩ => ⟨S8x8x1x1, .i1⟩
  | .hbm, ⟨59, _⟩ => ⟨S_, .i32⟩
  | .hbm, ⟨60, _⟩ => ⟨S8x8x1x1, .i32⟩
  | .hbm, ⟨61, _⟩ => ⟨S8x8x1x1, .i32⟩
  | .hbm, ⟨62, _⟩ => ⟨S8x8x1x1, .i32⟩
  | .hbm, ⟨63, _⟩ => ⟨S_, .i32⟩
  | .hbm, ⟨64, _⟩ => ⟨S1x1x64x64, .i32⟩
  | .hbm, ⟨65, _⟩ => ⟨S1x1x64x64, .i1⟩
  | .hbm, ⟨66, _⟩ => ⟨S_, .i32⟩
  | .hbm, ⟨67, _⟩ => ⟨S1x1x64x64, .i32⟩
  | .hbm, ⟨68, _⟩ => ⟨S1x1x64x64, .i32⟩
  | .hbm, ⟨69, _⟩ => ⟨S1x1x64x64, .i32⟩
  | .hbm, ⟨70, _⟩ => ⟨S8x8x64x64, .i32⟩
  | .hbm, ⟨71, _⟩ => ⟨S8x8x64x64, .i32⟩
  | .hbm, ⟨72, _⟩ => ⟨S8x8x64x64x1, .i32⟩
  | .hbm, ⟨73, _⟩ => ⟨S8x8x64x64x1, .i32⟩
  | .hbm, ⟨74, _⟩ => ⟨S8x8x64x64x2, .i32⟩
  | .hbm, ⟨75, _⟩ => ⟨S8x8x8x64x64, .f32⟩
  | .hbm, ⟨76, _⟩ => ⟨S1x1x1x64x64, .i1⟩
  | .hbm, ⟨77, _⟩ => ⟨S_, .f32⟩
  | .hbm, ⟨78, _⟩ => ⟨S_, .f32⟩
  | .hbm, ⟨79, _⟩ => ⟨S8x8x8x64x64, .i1⟩
  | .hbm, ⟨80, _⟩ => ⟨S8x8x8x64x64, .f32⟩
  | .hbm, ⟨81, _⟩ => ⟨S8x8x8x64x64, .f32⟩
  | .hbm, ⟨82, _⟩ => ⟨S8x8x64x8x64, .f32⟩
  | .hbm, ⟨83, _⟩ => ⟨S8x8x64x512, .f32⟩
  | .hbm, ⟨84, _⟩ => ⟨S8192x2048, .bf16⟩
  | .local _ .vmem, ⟨0, _⟩ => ⟨S64x512, .bf16⟩
  | .local _ .vmem, ⟨1, _⟩ => ⟨S64x512, .bf16⟩
  | .local _ .vmem, ⟨2, _⟩ => ⟨S8192x512, .bf16⟩
  | .local _ .vmem, ⟨3, _⟩ => ⟨S8192x512, .bf16⟩
  | .local _ .vmem, ⟨4, _⟩ => ⟨S1x8x64x512, .f32⟩
  | .local _ .vmem, ⟨5, _⟩ => ⟨S1x8x64x512, .f32⟩
  | .local _ .vmem, ⟨6, _⟩ => ⟨S64x512, .bf16⟩
  | .local _ .vmem, ⟨7, _⟩ => ⟨S64x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_c_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_c_6 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_c_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 128], ![false, false]⟩

def k0_mult1 (i : grid0.Coords) : BitVec 32 :=
  let c120_i32 : BitVec 32 := 120#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c120_i32 v1
  let c64_i32 : BitVec 32 := 64#32
  let v3 : BitVec 32 := Scalar.muli v2 c64_i32
  v3
def k0_off1 (i : grid0.Coords) : Fin 2 → Nat :=
  let c120_i32 : BitVec 32 := 120#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c120_i32 v1
  let c64_i32 : BitVec 32 := 64#32
  let v3 : BitVec 32 := Scalar.muli v2 c64_i32
  let v4 : BitVec 32 := v3
  let v9 : Index := Scalar.indexCast v4
  let c0_2 : Index := 0#32
  ![v9.toNat, 0]
def k0_off2 (i : grid0.Coords) : Fin 2 → Nat :=
  let c120_i32 : BitVec 32 := 120#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c120_i32 v1
  let c64_i32 : BitVec 32 := 64#32
  let v3 : BitVec 32 := Scalar.muli v2 c64_i32
  let v4 : BitVec 32 := v3
  let v52 : Index := Scalar.indexCast v4
  let c128_24 : Index := 128#32
  ![v52.toNat, 128]
def k0_off3 (i : grid0.Coords) : Fin 2 → Nat :=
  let c120_i32 : BitVec 32 := 120#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c120_i32 v1
  let c64_i32 : BitVec 32 := 64#32
  let v3 : BitVec 32 := Scalar.muli v2 c64_i32
  let v4 : BitVec 32 := v3
  let v95 : Index := Scalar.indexCast v4
  let c256_46 : Index := 256#32
  ![v95.toNat, 256]
def k0_off4 (i : grid0.Coords) : Fin 2 → Nat :=
  let c120_i32 : BitVec 32 := 120#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c120_i32 v1
  let c64_i32 : BitVec 32 := 64#32
  let v3 : BitVec 32 := Scalar.muli v2 c64_i32
  let v4 : BitVec 32 := v3
  let v138 : Index := Scalar.indexCast v4
  let c384_68 : Index := 384#32
  ![v138.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c120_i32 : BitVec 32 := 120#32
  let v1 : BitVec 32 := Scalar.maxsi c0_i32 v0
  let v2 : BitVec 32 := Scalar.minsi c120_i32 v1
  let v3 : BitVec 32 := Scalar.subi arg1 v2
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnRefIdeal.lean ====
abbrev S8192x2048 : Shape := ⟨2, ![8192, 2048]⟩
abbrev S1x8x15x31 : Shape := ⟨4, ![1, 8, 15, 31]⟩
abbrev S8x15x31 : Shape := ⟨3, ![8, 15, 31]⟩
abbrev S8192x4x8x64 : Shape := ⟨4, ![8192, 4, 8, 64]⟩
abbrev S64 : Shape := ⟨1, ![64]⟩
abbrev S_ : Shape := ⟨0, ![]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x1x8x1 : Shape := ⟨4, ![128, 1, 8, 1]⟩
abbrev S1x64x1x16 : Shape := ⟨4, ![1, 64, 1, 16]⟩
abbrev S128x64x8x16 : Shape := ⟨4, ![128, 64, 8, 16]⟩
abbrev S8192x128 : Shape := ⟨2, ![8192, 128]⟩
abbrev S8192x128x1 : Shape := ⟨3, ![8192, 128, 1]⟩
abbrev S8192x128x4x8x64 : Shape := ⟨5, ![8192, 128, 4, 8, 64]⟩
abbrev S8192x128x2 : Shape := ⟨3, ![8192, 128, 2]⟩
abbrev S8x8192x128 : Shape := ⟨3, ![8, 8192, 128]⟩
abbrev S8192x8x128 : Shape := ⟨3, ![8192, 8, 128]⟩
abbrev S8192x4x8x128 : Shape := ⟨4, ![8192, 4, 8, 128]⟩
abbrev S8192x1x8x128 : Shape := ⟨4, ![8192, 1, 8, 128]⟩
abbrev S8192x4x8 : Shape := ⟨3, ![8192, 4, 8]⟩
abbrev S8192x4x8x1 : Shape := ⟨4, ![8192, 4, 8, 1]⟩

abbrev nBuf : Space → Nat
  | .hbm => 132
  | .vmem => 0
  | .smem => 0
  | _ => 0

abbrev hbmTy0_0 (i : Nat) : BufTy := match i % 128 with
  | 0 => ⟨S8192x2048, .bf16⟩
  | 1 => ⟨S8192x2048, .bf16⟩
  | 2 => ⟨S8192x2048, .bf16⟩
  | 3 => ⟨S1x8x15x31, .f32⟩
  | 4 => ⟨S8x15x31, .f32⟩
  | 5 => ⟨S8192x2048, .f32⟩
  | 6 => ⟨S8192x4x8x64, .f32⟩
  | 7 => ⟨S8192x2048, .f32⟩
  | 8 => ⟨S8192x4x8x64, .f32⟩
  | 9 => ⟨S8192x2048, .f32⟩
  | 10 => ⟨S8192x4x8x64, .f32⟩
  | 11 => ⟨S64, .i32⟩
  | 12 => ⟨S_, .i32⟩
  | 13 => ⟨S64, .i32⟩
  | 14 => ⟨S64, .i32⟩
  | 15 => ⟨S_, .i32⟩
  | 16 => ⟨S_, .i32⟩
  | 17 => ⟨S_, .i32⟩
  | 18 => ⟨S64, .i32⟩
  | 19 => ⟨S64, .i32⟩
  | 20 => ⟨S_, .i32⟩
  | 21 => ⟨S64, .i32⟩
  | 22 => ⟨S64, .i32⟩
  | 23 => ⟨S64x1, .i32⟩
  | 24 => ⟨S16, .i32⟩
  | 25 => ⟨S1x16, .i32⟩
  | 26 => ⟨S64x16, .i32⟩
  | 27 => ⟨S64x16, .i32⟩
  | 28 => ⟨S64x16, .i32⟩
  | 29 => ⟨S64x1, .i32⟩
  | 30 => ⟨S64x16, .i32⟩
  | 31 => ⟨S64x16, .i32⟩
  | 32 => ⟨S_, .i32⟩
  | 33 => ⟨S64x16, .i32⟩
  | 34 => ⟨S64x16, .i32⟩
  | 35 => ⟨S128, .i32⟩
  | 36 => ⟨S_, .i32⟩
  | 37 => ⟨S128, .i32⟩
  | 38 => ⟨S128, .i32⟩
  | 39 => ⟨S_, .i32⟩
  | 40 => ⟨S_, .i32⟩
  | 41 => ⟨S_, .i32⟩
  | 42 => ⟨S128, .i32⟩
  | 43 => ⟨S128, .i32⟩
  | 44 => ⟨S_, .i32⟩
  | 45 => ⟨S128, .i32⟩
  | 46 => ⟨S128, .i32⟩
  | 47 => ⟨S128x1, .i32⟩
  | 48 => ⟨S8, .i32⟩
  | 49 => ⟨S1x8, .i32⟩
  | 50 => ⟨S128x8, .i32⟩
  | 51 => ⟨S128x8, .i32⟩
  | 52 => ⟨S128x8, .i32⟩
  | 53 => ⟨S128x1, .i32⟩
  | 54 => ⟨S128x8, .i32⟩
  | 55 => ⟨S128x8, .i32⟩
  | 56 => ⟨S_, .i32⟩
  | 57 => ⟨S128x8, .i32⟩
  | 58 => ⟨S128x8, .i32⟩
  | 59 => ⟨S128x1x8x1, .i32⟩
  | 60 => ⟨S_, .i32⟩
  | 61 => ⟨S128x1x8x1, .i32⟩
  | 62 => ⟨S128x1x8x1, .i32⟩
  | 63 => ⟨S1x64x1x16, .i32⟩
  | 64 => ⟨S128x64x8x16, .i32⟩
  | 65 => ⟨S128x64x8x16, .i32⟩
  | 66 => ⟨S128x64x8x16, .i32⟩
  | 67 => ⟨S8192x128, .i32⟩
  | 68 => ⟨S128x1x8x1, .i32⟩
  | 69 => ⟨S128x64x8x16, .i32⟩
  | 70 => ⟨S8192x128, .i32⟩
  | 71 => ⟨S1x64x1x16, .i32⟩
  | 72 => ⟨S128x64x8x16, .i32⟩
  | 73 => ⟨S8192x128, .i32⟩
  | 74 => ⟨S_, .i32⟩
  | 75 => ⟨S8192x128, .i32⟩
  | 76 => ⟨S8192x128, .i1⟩
  | 77 => ⟨S_, .i32⟩
  | 78 => ⟨S8192x128, .i32⟩
  | 79 => ⟨S8192x128, .i32⟩
  | 80 => ⟨S8192x128, .i32⟩
  | 81 => ⟨S8192x128x1, .i32⟩
  | 82 => ⟨S8192x128x4x8x64, .f32⟩
  | 83 => ⟨S_, .i32⟩
  | 84 => ⟨S8192x128, .i32⟩
  | 85 => ⟨S8192x128, .i1⟩
  | 86 => ⟨S_, .i32⟩
  | 87 => ⟨S8192x128, .i32⟩
  | 88 => ⟨S8192x128, .i32⟩
  | 89 => ⟨S8192x128, .i32⟩
  | 90 => ⟨S8192x128x1, .i32⟩
  | 91 => ⟨S8192x128x4x8x64, .f32⟩
  | 92 => ⟨S_, .i32⟩
  | 93 => ⟨S8192x128, .i32⟩
  | 94 => ⟨S8192x128, .i1⟩
  | 95 => ⟨S_, .i32⟩
  | 96 => ⟨S8192x128, .i32⟩
  | 97 => ⟨S8192x128, .i32⟩
  | 98 => ⟨S8192x128, .i32⟩
  | 99 => ⟨S_, .i32⟩
  | 100 => ⟨S8192x128, .i32⟩
  | 101 => ⟨S8192x128, .i1⟩
  | 102 => ⟨S_, .i32⟩
  | 103 => ⟨S8192x128, .i32⟩
  | 104 => ⟨S8192x128, .i32⟩
  | 105 => ⟨S8192x128, .i32⟩
  | 106 => ⟨S8192x128x1, .i32⟩
  | 107 => ⟨S8192x128x1, .i32⟩
  | 108 => ⟨S8192x128x2, .i32⟩
  | 109 => ⟨S8x8192x128, .f32⟩
  | 110 => ⟨S8192x8x128, .f32⟩
  | 111 => ⟨S8192x4x8x128, .f32⟩
  | 112 => ⟨S8192x1x8x128, .f32⟩
  | 113 => ⟨S8192x4x8x128, .f32⟩
  | 114 => ⟨S8192x4x8x128, .f32⟩
  | 115 => ⟨S_, .f32⟩
  | 116 => ⟨S8192x4x8, .f32⟩
  | 117 => ⟨S_, .f32⟩
  | 118 => ⟨S8192x4x8, .f32⟩
  | 119 => ⟨S8192x4x8, .f32⟩
  | 120 => ⟨S8192x4x8x1, .f32⟩
  | 121 => ⟨S8192x4x8x128, .f32⟩
  | 122 => ⟨S8192x4x8x128, .f32⟩
  | 123 => ⟨S8192x4x8x128, .f32⟩
  | 124 => ⟨S_, .f32⟩
  | 125 => ⟨S8192x4x8, .f32⟩
  | 126 => ⟨S8192x4x8x1, .f32⟩
  | 127 => ⟨S8192x4x8x128, .f32⟩
  | _ => ⟨S8192x2048, .bf16⟩

abbrev hbmTy0_1 (i : Nat) : BufTy := match i % 128 with
  | 0 => ⟨S8192x4x8x128, .f32⟩
  | 1 => ⟨S8192x4x8x64, .f32⟩
  | 2 => ⟨S8192x2048, .f32⟩
  | 3 => ⟨S8192x2048, .bf16⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_8 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_10 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_14 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst : Ref sig .tc := ⟨.hbm, 115, rfl⟩
abbrev main_v84 : Ref sig .tc := ⟨.hbm, 116, rfl⟩
abbrev main_cst_16 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_17 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩

abbrev nD : Nat := 1
abbrev τ : Topo := Topo.v7x

variable {F : FTy → Type} [FloatOps F]
-- ==== Ffn.lean ====
abbrev S4x8192x1024 : Shape := ⟨3, ![4, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S8192x4096 : Shape := ⟨2, ![8192, 4096]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 14
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1x1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S8192x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S4x8192x1024 : Shape := ⟨3, ![4, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S4x8192x2816 : Shape := ⟨3, ![4, 8192, 2816]⟩
abbrev S8192x4x1024 : Shape := ⟨3, ![8192, 4, 1024]⟩
abbrev S8192x4096 : Shape := ⟨2, ![8192, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S1024x2816, .f32⟩
  | .hbm, ⟨23, _⟩ => ⟨S1024x2816, .f32⟩
  | .hbm, ⟨24, _⟩ => ⟨S2816x1024, .f32⟩
  | .hbm, ⟨25, _⟩ => ⟨S4x8192x2816, .f32⟩
  | .hbm, ⟨26, _⟩ => ⟨S4x8192x2816, .f32⟩
  | .hbm, ⟨27, _⟩ => ⟨S4x8192x2816, .f32⟩
  | .hbm, ⟨28, _⟩ => ⟨S_, .f32⟩
  | .hbm, ⟨29, _⟩ => ⟨S4x8192x2816, .f32⟩
  | .hbm, ⟨30, _⟩ => ⟨S4x8192x2816, .f32⟩
  | .hbm, ⟨31, _⟩ => ⟨S_, .f32⟩
  | .hbm, ⟨32, _⟩ => ⟨S4x8192x2816, .f32⟩
  | .hbm, ⟨33, _⟩ => ⟨S4x8192x2816, .f32⟩
  | .hbm, ⟨34, _⟩ => ⟨S4x8192x2816, .f32⟩
  | .hbm, ⟨35, _⟩ => ⟨S4x8192x2816, .f32⟩
  | .hbm, ⟨36, _⟩ => ⟨S4x8192x2816, .f32⟩
  | .hbm, ⟨37, _⟩ => ⟨S4x8192x1024, .f32⟩
  | .hbm, ⟨38, _⟩ => ⟨S_, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S8192x4x1024, .f32⟩
  | .hbm, ⟨43, _⟩ => ⟨S8192x4096, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Inproj.lean ====
abbrev S8192x4096 : Shape := ⟨2, ![8192, 4096]⟩
abbrev S1x1024 : Shape := ⟨2, ![1, 1024]⟩
abbrev S1x1024x4096 : Shape := ⟨3, ![1, 1024, 4096]⟩
abbrev S4 : Shape := ⟨1, ![4]⟩
abbrev S4x1x1 : Shape := ⟨3, ![4, 1, 1]⟩
abbrev S2 : Shape := ⟨1, ![2]⟩
abbrev S1x2x1 : Shape := ⟨3, ![1, 2, 1]⟩
abbrev S64 : Shape := ⟨1, ![64]⟩
abbrev S1x1x64 : Shape := ⟨3, ![1, 1, 64]⟩
abbrev S_ : Shape := ⟨0, ![]⟩
abbrev S4x2x1 : Shape := ⟨3, ![4, 2, 1]⟩
abbrev S4x2x64 : Shape := ⟨3, ![4, 2, 64]⟩
abbrev S512 : Shape := ⟨1, ![512]⟩
abbrev S1024x4096 : Shape := ⟨2, ![1024, 4096]⟩
abbrev S1024x1536 : Shape := ⟨2, ![1024, 1536]⟩
abbrev S1024x512 : Shape := ⟨2, ![1024, 512]⟩
abbrev S512x1 : Shape := ⟨2, ![512, 1]⟩
abbrev S1024x2048 : Shape := ⟨2, ![1024, 2048]⟩
abbrev S1024 : Shape := ⟨1, ![1024]⟩
abbrev S8192x2048 : Shape := ⟨2, ![8192, 2048]⟩
abbrev S4x8192x512 : Shape := ⟨3, ![4, 8192, 512]⟩
abbrev S512x1024 : Shape := ⟨2, ![512, 1024]⟩
abbrev S512x512 : Shape := ⟨2, ![512, 512]⟩
abbrev S4x512x128 : Shape := ⟨3, ![4, 512, 128]⟩
abbrev S512x128 : Shape := ⟨2, ![512, 128]⟩
abbrev S1x512x128 : Shape := ⟨3, ![1, 512, 128]⟩
abbrev S1024x1024 : Shape := ⟨2, ![1024, 1024]⟩

abbrev nBuf : Space → Nat
  | .hbm => 47
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S1x1024, .f32⟩
  | .hbm, ⟨2, _⟩ => ⟨S1x1024x4096, .f32⟩
  | .hbm, ⟨3, _⟩ => ⟨S4, .i32⟩
  | .hbm, ⟨4, _⟩ => ⟨S4x1x1, .i32⟩
  | .hbm, ⟨5, _⟩ => ⟨S2, .i32⟩
  | .hbm, ⟨6, _⟩ => ⟨S1x2x1, .i32⟩
  | .hbm, ⟨7, _⟩ => ⟨S64, .i32⟩
  | .hbm, ⟨8, _⟩ => ⟨S1x1x64, .i32⟩
  | .hbm, ⟨9, _⟩ => ⟨S_, .i32⟩
  | .hbm, ⟨10, _⟩ => ⟨S1x2x1, .i32⟩
  | .hbm, ⟨11, _⟩ => ⟨S1x2x1, .i32⟩
  | .hbm, ⟨12, _⟩ => ⟨S_, .i32⟩
  | .hbm, ⟨13, _⟩ => ⟨S4x1x1, .i32⟩
  | .hbm, ⟨14, _⟩ => ⟨S4x1x1, .i32⟩
  | .hbm, ⟨15, _⟩ => ⟨S4x2x1, .i32⟩
  | .hbm, ⟨16, _⟩ => ⟨S4x2x1, .i32⟩
  | .hbm, ⟨17, _⟩ => ⟨S4x2x1, .i32⟩
  | .hbm, ⟨18, _⟩ => ⟨S4x2x64, .i32⟩
  | .hbm, ⟨19, _⟩ => ⟨S4x2x64, .i32⟩
  | .hbm, ⟨20, _⟩ => ⟨S4x2x64, .i32⟩
  | .hbm, ⟨21, _⟩ => ⟨S512, .i32⟩
  | .hbm, ⟨22, _⟩ => ⟨S1024x4096, .f32⟩
  | .hbm, ⟨23, _⟩ => ⟨S1024x1536, .f32⟩
  | .hbm, ⟨24, _⟩ => ⟨S1024x4096, .f32⟩
  | .hbm, ⟨25, _⟩ => ⟨S1024x512, .f32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S512x1, .i32⟩
  | .hbm, ⟨34, _⟩ => ⟨S1024x512, .f32⟩
  | .hbm, ⟨35, _⟩ => ⟨S1024x4096, .f32⟩
  | .hbm, ⟨36, _⟩ => ⟨S1024x2048, .f32⟩
  | .hbm, ⟨37, _⟩ => ⟨S1024x4096, .f32⟩
  | .hbm, ⟨38, _⟩ => ⟨S1024, .f32⟩
  | .hbm, ⟨39, _⟩ => ⟨S1x1024, .f32⟩
  | .hbm, ⟨40, _⟩ => ⟨S1024x4096, .bf16⟩
  | .hbm, ⟨41, _⟩ => ⟨S8192x2048, .bf16⟩
  | .hbm, ⟨42, _⟩ => ⟨S8192x2048, .bf16⟩
  | .hbm, ⟨43, _⟩ => ⟨S8192x2048, .bf16⟩
  | .hbm, ⟨44, _⟩ => ⟨S4x8192x512, .f32⟩
  | .hbm, ⟨45, _⟩ => ⟨S8192x4096, .bf16⟩
  | .hbm, ⟨46, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4x512x128, .f32⟩
  | .local _ .vmem, ⟨11, _⟩ => ⟨S4x512x128, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_1 : Ref sig .tc := ⟨.hbm, 26, rfl⟩
abbrev main_v21 : Ref sig .tc := ⟨.hbm, 27, rfl⟩
abbrev main_v22 : Ref sig .tc := ⟨.hbm, 28, rfl⟩
abbrev main_c_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34_0 : Ref sig .tc := ⟨.hbm, 41, rfl⟩
abbrev main_v34_1 : Ref sig .tc := ⟨.hbm, 42, rfl⟩
abbrev main_v34_2 : Ref sig .tc := ⟨.hbm, 43, rfl⟩
abbrev main_v34_3 : Ref sig .tc := ⟨.hbm, 44, rfl⟩
abbrev main_v34_4 : Ref sig .tc := ⟨.hbm, 45, rfl⟩
abbrev main_v34_5 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== InprojRefIdeal.lean ====
abbrev S8192x4096 : Shape := ⟨2, ![8192, 4096]⟩
abbrev S1x1024 : Shape := ⟨2, ![1, 1024]⟩
abbrev S1x1024x4096 : Shape := ⟨3, ![1, 1024, 4096]⟩
abbrev S8192x4x1024 : Shape := ⟨3, ![8192, 4, 1024]⟩
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x4096 : Shape := ⟨2, ![1024, 4096]⟩
abbrev S4x8192x4096 : Shape := ⟨3, ![4, 8192, 4096]⟩
abbrev S4x8192x512 : Shape := ⟨3, ![4, 8192, 512]⟩
abbrev S4x8192x2048 : Shape := ⟨3, ![4, 8192, 2048]⟩
abbrev S4x8192x2x4x64 : Shape := ⟨5, ![4, 8192, 2, 4, 64]⟩
abbrev S4x8192x4x2x64 : Shape := ⟨5, ![4, 8192, 4, 2, 64]⟩
abbrev S8192x4x512 : Shape := ⟨3, ![8192, 4, 512]⟩
abbrev S8192x2048 : Shape := ⟨2, ![8192, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x1024, .f32⟩
  | .hbm, ⟨2, _⟩ => ⟨S1x1024x4096, .f32⟩
  | .hbm, ⟨3, _⟩ => ⟨S8192x4x1024, .f32⟩
  | .hbm, ⟨4, _⟩ => ⟨S4x8192x1024, .f32⟩
  | .hbm, ⟨5, _⟩ => ⟨S1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S1024x4096, .f32⟩
  | .hbm, ⟨23, _⟩ => ⟨S4x8192x4096, .f32⟩
  | .hbm, ⟨24, _⟩ => ⟨S4x8192x512, .f32⟩
  | .hbm, ⟨25, _⟩ => ⟨S4x8192x512, .f32⟩
  | .hbm, ⟨26, _⟩ => ⟨S4x8192x512, .f32⟩
  | .hbm, ⟨27, _⟩ => ⟨S4x8192x512, .f32⟩
  | .hbm, ⟨28, _⟩ => ⟨S4x8192x2048, .f32⟩
  | .hbm, ⟨29, _⟩ => ⟨S4x8192x2048, .f32⟩
  | .hbm, ⟨30, _⟩ => ⟨S4x8192x2048, .f32⟩
  | .hbm, ⟨31, _⟩ => ⟨S_, .f32⟩
  | .hbm, ⟨32, _⟩ => ⟨S4x8192x2048, .f32⟩
  | .hbm, ⟨33, _⟩ => ⟨S4x8192x2048, .f32⟩
  | .hbm, ⟨34, _⟩ => ⟨S_, .f32⟩
  | .hbm, ⟨35, _⟩ => ⟨S4x8192x2048, .f32⟩
  | .hbm, ⟨36, _⟩ => ⟨S4x8192x2048, .f32⟩
  | .hbm, ⟨37, _⟩ => ⟨S4x8192x1024, .f32⟩
  | .hbm, ⟨38, _⟩ => ⟨S4x8192x1024, .f32⟩
  | .hbm, ⟨39, _⟩ => ⟨S4x8192x2x4x64, .f32⟩
  | .hbm, ⟨40, _⟩ => ⟨S4x8192x4x2x64, .f32⟩
  | .hbm, ⟨41, _⟩ => ⟨S4x8192x512, .f32⟩
  | .hbm, ⟨42, _⟩ => ⟨S_, .f32⟩
  | .hbm, ⟨43, _⟩ => ⟨S4x8192x512, .f32⟩
  | .hbm, ⟨44, _⟩ => ⟨S4x8192x512, .f32⟩
  | .hbm, ⟨45, _⟩ => ⟨S8192x4x512, .f32⟩
  | .hbm, ⟨46, _⟩ => ⟨S8192x2048, .f32⟩
  | .hbm, ⟨47, _⟩ => ⟨S8192x2048, .bf16⟩
  | .hbm, ⟨48, _⟩ => ⟨S8192x4x512, .f32⟩
  | .hbm, ⟨49, _⟩ => ⟨S8192x2048, .f32⟩
  | .hbm, ⟨50, _⟩ => ⟨S8192x2048, .bf16⟩
  | .hbm, ⟨51, _⟩ => ⟨S8192x4x512, .f32⟩
  | .hbm, ⟨52, _⟩ => ⟨S8192x2048, .f32⟩
  | .hbm, ⟨53, _⟩ => ⟨S8192x2048, .bf16⟩
  | .hbm, ⟨54, _⟩ => ⟨S8192x4x1024, .f32⟩
  | .hbm, ⟨55, _⟩ => ⟨S8192x4096, .f32⟩
  | .hbm, ⟨56, _⟩ => ⟨S8192x4096, .bf16⟩
  | .hbm, ⟨57, _⟩ => ⟨S8192x4x1024, .f32⟩
  | .hbm, ⟨58, _⟩ => ⟨S8192x4096, .f32⟩
  | .hbm, ⟨59, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]
-- ==== Merge.lean ====
abbrev S8192x4096 : Shape := ⟨2, ![8192, 4096]⟩
abbrev S8192x2048 : Shape := ⟨2, ![8192, 2048]⟩
abbrev S4x8192x512 : Shape := ⟨3, ![4, 8192, 512]⟩
abbrev S2x4x32768x128 : Shape := ⟨4, ![2, 4, 32768, 128]⟩
abbrev S1x512 : Shape := ⟨2, ![1, 512]⟩
abbrev S1x512x512 : Shape := ⟨3, ![1, 512, 512]⟩
abbrev S1x512x1024 : Shape := ⟨3, ![1, 512, 1024]⟩
abbrev S1x1024x1024 : Shape := ⟨3, ![1, 1024, 1024]⟩
abbrev S4 : Shape := ⟨1, ![4]⟩
abbrev S4x1x1 : Shape := ⟨3, ![4, 1, 1]⟩
abbrev S2 : Shape := ⟨1, ![2]⟩
abbrev S1x2x1 : Shape := ⟨3, ![1, 2, 1]⟩
abbrev S64 : Shape := ⟨1, ![64]⟩
abbrev S1x1x64 : Shape := ⟨3, ![1, 1, 64]⟩
abbrev S_ : Shape := ⟨0, ![]⟩
abbrev S4x2x1 : Shape := ⟨3, ![4, 2, 1]⟩
abbrev S4x2x64 : Shape := ⟨3, ![4, 2, 64]⟩
abbrev S512 : Shape := ⟨1, ![512]⟩
abbrev S512x1 : Shape := ⟨2, ![512, 1]⟩
abbrev S512x512 : Shape := ⟨2, ![512, 512]⟩
abbrev S512x1024 : Shape := ⟨2, ![512, 1024]⟩
abbrev S1024x1024 : Shape := ⟨2, ![1024, 1024]⟩
abbrev S2x4x8192x512 : Shape := ⟨4, ![2, 4, 8192, 512]⟩
abbrev S4x512x128 : Shape := ⟨3, ![4, 512, 128]⟩
abbrev S1x4x512x128 : Shape := ⟨4, ![1, 4, 512, 128]⟩
abbrev S1x512x128 : Shape := ⟨3, ![1, 512, 128]⟩
abbrev S512x128 : Shape := ⟨2, ![512, 128]⟩
abbrev S1x1x512x128 : Shape := ⟨4, ![1, 1, 512, 128]⟩

abbrev nBuf : Space → Nat
  | .hbm => 90
  | .vmem => 22
  | .smem => 0
  | _ => 0

abbrev bufTy : (tb : Table) → Fin (tcTables nBuf tb) → BufTy
  | .hbm, ⟨0, _⟩ => ⟨S8192x4096, .f32⟩
  | .hbm, ⟨1, _⟩ => ⟨S8192x2048, .bf16⟩
  | .hbm, ⟨2, _⟩ => ⟨S4x8192x512, .f32⟩
  | .hbm, ⟨3, _⟩ => ⟨S2x4x32768x128, .f32⟩
  | .hbm, ⟨4, _⟩ => ⟨S8192x4096, .bf16⟩
  | .hbm, ⟨5, _⟩ => ⟨S8192x4096, .bf16⟩
  | .hbm, ⟨6, _⟩ => ⟨S1x512, .f32⟩
  | .hbm, ⟨7, _⟩ => ⟨S1x512x512, .f32⟩
  | .hbm, ⟨8, _⟩ => ⟨S1x512, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S4, .i32⟩
  | .hbm, ⟨13, _⟩ => ⟨S4x1x1, .i32⟩
  | .hbm, ⟨14, _⟩ => ⟨S2, .i32⟩
  | .hbm, ⟨15, _⟩ => ⟨S1x2x1, .i32⟩
  | .hbm, ⟨16, _⟩ => ⟨S64, .i32⟩
  | .hbm, ⟨17, _⟩ => ⟨S1x1x64, .i32⟩
  | .hbm, ⟨18, _⟩ => ⟨S_, .i32⟩
  | .hbm, ⟨19, _⟩ => ⟨S1x2x1, .i32⟩
  | .hbm, ⟨20, _⟩ => ⟨S1x2x1, .i32⟩
  | .hbm, ⟨21, _⟩ => ⟨S_, .i32⟩
  | .hbm, ⟨22, _⟩ => ⟨S4x1x1, .i32⟩
  | .hbm, ⟨23, _⟩ => ⟨S4x1x1, .i32⟩
  | .hbm, ⟨24, _⟩ => ⟨S4x2x1, .i32⟩
  | .hbm, ⟨25, _⟩ => ⟨S4x2x1, .i32⟩
  | .hbm, ⟨26, _⟩ => ⟨S4x2x1, .i32⟩
  | .hbm, ⟨27, _⟩ => ⟨S4x2x64, .i32⟩
  | .hbm, ⟨28, _⟩ => ⟨S4x2x64, .i32⟩
  | .hbm, ⟨29, _⟩ => ⟨S4x2x64, .i32⟩
  | .hbm, ⟨30, _⟩ => ⟨S512, .i32⟩
  | .hbm, ⟨31, _⟩ => ⟨S512, .f32⟩
  | .hbm, ⟨32, _⟩ => ⟨S_, .i32⟩
  | .hbm, ⟨33, _⟩ => ⟨S512, .i32⟩
  | .hbm, ⟨34, _⟩ => ⟨S512, .i1⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S512, .i32⟩
  | .hbm, ⟨39, _⟩ => ⟨S512x1, .i32⟩
  | .hbm, ⟨40, _⟩ => ⟨S512, .f32⟩
  | .hbm, ⟨41, _⟩ => ⟨S1x512, .f32⟩
  | .hbm, ⟨42, _⟩ => ⟨S512x512, .f32⟩
  | .hbm, ⟨43, _⟩ => ⟨S_, .i32⟩
  | .hbm, ⟨44, _⟩ => ⟨S512, .i32⟩
  | .hbm, ⟨45, _⟩ => ⟨S512, .i1⟩
  | .hbm, ⟨46, _⟩ => ⟨S_, .i32⟩
  | .hbm, ⟨47, _⟩ => ⟨S512, .i32⟩
  | .hbm, ⟨48, _⟩ => ⟨S512, .i32⟩
  | .hbm, ⟨49, _⟩ => ⟨S512, .i32⟩
  | .hbm, ⟨50, _⟩ => ⟨S512x1, .i32⟩
  | .hbm, ⟨51, _⟩ => ⟨S512x512, .f32⟩
  | .hbm, ⟨52, _⟩ => ⟨S_, .i32⟩
  | .hbm, ⟨53, _⟩ => ⟨S512, .i32⟩
  | .hbm, ⟨54, _⟩ => ⟨S512, .i1⟩
  | .hbm, ⟨55, _⟩ => ⟨S_, .i32⟩
  | .hbm, ⟨56, _⟩ => ⟨S512, .i32⟩
  | .hbm, ⟨57, _⟩ => ⟨S512, .i32⟩
  | .hbm, ⟨58, _⟩ => ⟨S512, .i32⟩
  | .hbm, ⟨59, _⟩ => ⟨S512x1, .i32⟩
  | .hbm, ⟨60, _⟩ => ⟨S512x512, .f32⟩
  | .hbm, ⟨61, _⟩ => ⟨S512x512, .bf16⟩
  | .hbm, ⟨62, _⟩ => ⟨S512, .f32⟩
  | .hbm, ⟨63, _⟩ => ⟨S_, .i32⟩
  | .hbm, ⟨64, _⟩ => ⟨S512, .i32⟩
  | .hbm, ⟨65, _⟩ => ⟨S512, .i1⟩
  | .hbm, ⟨66, _⟩ => ⟨S_, .i32⟩
  | .hbm, ⟨67, _⟩ => ⟨S512, .i32⟩
  | .hbm, ⟨68, _⟩ => ⟨S512, .i32⟩
  | .hbm, ⟨69, _⟩ => ⟨S512, .i32⟩
  | .hbm, ⟨70, _⟩ => ⟨S512x1, .i32⟩
  | .hbm, ⟨71, _⟩ => ⟨S512, .f32⟩
  | .hbm, ⟨72, _⟩ => ⟨S1x512, .f32⟩
  | .hbm, ⟨73, _⟩ => ⟨S512x1024, .f32⟩
  | .hbm, ⟨74, _⟩ => ⟨S512x1024, .bf16⟩
  | .hbm, ⟨75, _⟩ => ⟨S512x1024, .f32⟩
  | .hbm, ⟨76, _⟩ => ⟨S_, .i32⟩
  | .hbm, ⟨77, _⟩ => ⟨S512, .i32⟩
  | .hbm, ⟨78, _⟩ => ⟨S512, .i1⟩
  | .hbm, ⟨79, _⟩ => ⟨S_, .i32⟩
  | .hbm, ⟨80, _⟩ => ⟨S512, .i32⟩
  | .hbm, ⟨81, _⟩ => ⟨S512, .i32⟩
  | .hbm, ⟨82, _⟩ => ⟨S512, .i32⟩
  | .hbm, ⟨83, _⟩ => ⟨S512x1, .i32⟩
  | .hbm, ⟨84, _⟩ => ⟨S512x1024, .f32⟩
  | .hbm, ⟨85, _⟩ => ⟨S512x1024, .bf16⟩
  | .hbm, ⟨86, _⟩ => ⟨S1024x1024, .f32⟩
  | .hbm, ⟨87, _⟩ => ⟨S1024x1024, .bf16⟩
  | .hbm, ⟨88, _⟩ => ⟨S2x4x8192x512, .f32⟩
  | .hbm, ⟨89, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S4x512x128, .f32⟩
  | .local _ .vmem, ⟨5, _⟩ => ⟨S4x512x128, .f32⟩
  | .local _ .vmem, ⟨6, _⟩ => ⟨S1x4x512x128, .f32⟩
  | .local _ .vmem, ⟨7, _⟩ => ⟨S1x4x512x128, .f32⟩
  | .local _ .vmem, ⟨8, _⟩ => ⟨S1x4x512x128, .f32⟩
  | .local _ .vmem, ⟨9, _⟩ => ⟨S1x4x512x128, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x512, .f32⟩
  | .local _ .vmem, ⟨15, _⟩ => ⟨S512x512, .bf16⟩
  | .local _ .vmem, ⟨16, _⟩ => ⟨S1x512, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_3 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat, arg0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S8192x4096 : Shape := ⟨2, ![8192, 4096]⟩
abbrev S8192x2048 : Shape := ⟨2, ![8192, 2048]⟩
abbrev S4x8192x512 : Shape := ⟨3, ![4, 8192, 512]⟩
abbrev S2x4x32768x128 : Shape := ⟨4, ![2, 4, 32768, 128]⟩
abbrev S1x512 : Shape := ⟨2, ![1, 512]⟩
abbrev S1x512x512 : Shape := ⟨3, ![1, 512, 512]⟩
abbrev S1x512x1024 : Shape := ⟨3, ![1, 512, 1024]⟩
abbrev S1x1024x1024 : Shape := ⟨3, ![1, 1024, 1024]⟩
abbrev S8192x4x1024 : Shape := ⟨3, ![8192, 4, 1024]⟩
abbrev S4x8192x1024 : Shape := ⟨3, ![4, 8192, 1024]⟩
abbrev S8192x4x512 : Shape := ⟨3, ![8192, 4, 512]⟩
abbrev S512x1024 : Shape := ⟨2, ![512, 1024]⟩
abbrev S512 : Shape := ⟨1, ![512]⟩
abbrev S4x8192x4x2x64 : Shape := ⟨5, ![4, 8192, 4, 2, 64]⟩
abbrev S4x8192x2x4x64 : Shape := ⟨5, ![4, 8192, 2, 4, 64]⟩
abbrev S1x1x512 : Shape := ⟨3, ![1, 1, 512]⟩
abbrev S1x4x32768x128 : Shape := ⟨4, ![1, 4, 32768, 128]⟩
abbrev S4x32768x128 : Shape := ⟨3, ![4, 32768, 128]⟩
abbrev S_ : Shape := ⟨0, ![]⟩
abbrev S512x512 : Shape := ⟨2, ![512, 512]⟩
abbrev S1024x1024 : Shape := ⟨2, ![1024, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .bf16⟩
  | .hbm, ⟨2, _⟩ => ⟨S4x8192x512, .f32⟩
  | .hbm, ⟨3, _⟩ => ⟨S2x4x32768x128, .f32⟩
  | .hbm, ⟨4, _⟩ => ⟨S8192x4096, .bf16⟩
  | .hbm, ⟨5, _⟩ => ⟨S8192x4096, .bf16⟩
  | .hbm, ⟨6, _⟩ => ⟨S1x512, .f32⟩
  | .hbm, ⟨7, _⟩ => ⟨S1x512x512, .f32⟩
  | .hbm, ⟨8, _⟩ => ⟨S1x512, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S8192x4x1024, .f32⟩
  | .hbm, ⟨13, _⟩ => ⟨S4x8192x1024, .f32⟩
  | .hbm, ⟨14, _⟩ => ⟨S8192x2048, .f32⟩
  | .hbm, ⟨15, _⟩ => ⟨S8192x4x512, .f32⟩
  | .hbm, ⟨16, _⟩ => ⟨S4x8192x512, .f32⟩
  | .hbm, ⟨17, _⟩ => ⟨S512x1024, .f32⟩
  | .hbm, ⟨18, _⟩ => ⟨S4x8192x1024, .f32⟩
  | .hbm, ⟨19, _⟩ => ⟨S512, .f32⟩
  | .hbm, ⟨20, _⟩ => ⟨S4x8192x4x2x64, .f32⟩
  | .hbm, ⟨21, _⟩ => ⟨S4x8192x2x4x64, .f32⟩
  | .hbm, ⟨22, _⟩ => ⟨S4x8192x512, .f32⟩
  | .hbm, ⟨23, _⟩ => ⟨S1x1x512, .f32⟩
  | .hbm, ⟨24, _⟩ => ⟨S4x8192x512, .f32⟩
  | .hbm, ⟨25, _⟩ => ⟨S4x8192x512, .f32⟩
  | .hbm, ⟨26, _⟩ => ⟨S1x4x32768x128, .f32⟩
  | .hbm, ⟨27, _⟩ => ⟨S4x32768x128, .f32⟩
  | .hbm, ⟨28, _⟩ => ⟨S4x8192x4x2x64, .f32⟩
  | .hbm, ⟨29, _⟩ => ⟨S4x8192x2x4x64, .f32⟩
  | .hbm, ⟨30, _⟩ => ⟨S4x8192x512, .f32⟩
  | .hbm, ⟨31, _⟩ => ⟨S4x8192x512, .f32⟩
  | .hbm, ⟨32, _⟩ => ⟨S1x4x32768x128, .f32⟩
  | .hbm, ⟨33, _⟩ => ⟨S4x32768x128, .f32⟩
  | .hbm, ⟨34, _⟩ => ⟨S4x8192x4x2x64, .f32⟩
  | .hbm, ⟨35, _⟩ => ⟨S4x8192x2x4x64, .f32⟩
  | .hbm, ⟨36, _⟩ => ⟨S4x8192x512, .f32⟩
  | .hbm, ⟨37, _⟩ => ⟨S4x8192x512, .f32⟩
  | .hbm, ⟨38, _⟩ => ⟨S4x8192x512, .f32⟩
  | .hbm, ⟨39, _⟩ => ⟨S4x8192x512, .f32⟩
  | .hbm, ⟨40, _⟩ => ⟨S_, .f32⟩
  | .hbm, ⟨41, _⟩ => ⟨S4x8192x512, .f32⟩
  | .hbm, ⟨42, _⟩ => ⟨S4x8192x512, .f32⟩
  | .hbm, ⟨43, _⟩ => ⟨S4x8192x512, .f32⟩
  | .hbm, ⟨44, _⟩ => ⟨S_, .f32⟩
  | .hbm, ⟨45, _⟩ => ⟨S4x8192x512, .f32⟩
  | .hbm, ⟨46, _⟩ => ⟨S4x8192x512, .f32⟩
  | .hbm, ⟨47, _⟩ => ⟨S4x8192x512, .f32⟩
  | .hbm, ⟨48, _⟩ => ⟨S_, .f32⟩
  | .hbm, ⟨49, _⟩ => ⟨S4x8192x512, .f32⟩
  | .hbm, ⟨50, _⟩ => ⟨S4x8192x512, .f32⟩
  | .hbm, ⟨51, _⟩ => ⟨S_, .f32⟩
  | .hbm, ⟨52, _⟩ => ⟨S4x8192x512, .f32⟩
  | .hbm, ⟨53, _⟩ => ⟨S4x8192x512, .f32⟩
  | .hbm, ⟨54, _⟩ => ⟨S4x8192x512, .f32⟩
  | .hbm, ⟨55, _⟩ => ⟨S512x512, .f32⟩
  | .hbm, ⟨56, _⟩ => ⟨S4x8192x512, .f32⟩
  | .hbm, ⟨57, _⟩ => ⟨S512, .f32⟩
  | .hbm, ⟨58, _⟩ => ⟨S1x1x512, .f32⟩
  | .hbm, ⟨59, _⟩ => ⟨S4x8192x512, .f32⟩
  | .hbm, ⟨60, _⟩ => ⟨S4x8192x512, .f32⟩
  | .hbm, ⟨61, _⟩ => ⟨S4x8192x512, .f32⟩
  | .hbm, ⟨62, _⟩ => ⟨S4x8192x512, .f32⟩
  | .hbm, ⟨63, _⟩ => ⟨S_, .f32⟩
  | .hbm, ⟨64, _⟩ => ⟨S4x8192x512, .f32⟩
  | .hbm, ⟨65, _⟩ => ⟨S4x8192x512, .f32⟩
  | .hbm, ⟨66, _⟩ => ⟨S_, .f32⟩
  | .hbm, ⟨67, _⟩ => ⟨S4x8192x512, .f32⟩
  | .hbm, ⟨68, _⟩ => ⟨S4x8192x512, .f32⟩
  | .hbm, ⟨69, _⟩ => ⟨S4x8192x512, .f32⟩
  | .hbm, ⟨70, _⟩ => ⟨S512x1024, .f32⟩
  | .hbm, ⟨71, _⟩ => ⟨S4x8192x1024, .f32⟩
  | .hbm, ⟨72, _⟩ => ⟨S8192x4096, .f32⟩
  | .hbm, ⟨73, _⟩ => ⟨S8192x4x1024, .f32⟩
  | .hbm, ⟨74, _⟩ => ⟨S4x8192x1024, .f32⟩
  | .hbm, ⟨75, _⟩ => ⟨S4x8192x1024, .f32⟩
  | .hbm, ⟨76, _⟩ => ⟨S8192x4096, .f32⟩
  | .hbm, ⟨77, _⟩ => ⟨S8192x4x1024, .f32⟩
  | .hbm, ⟨78, _⟩ => ⟨S4x8192x1024, .f32⟩
  | .hbm, ⟨79, _⟩ => ⟨S4x8192x1024, .f32⟩
  | .hbm, ⟨80, _⟩ => ⟨S4x8192x1024, .f32⟩
  | .hbm, ⟨81, _⟩ => ⟨S1024x1024, .f32⟩
  | .hbm, ⟨82, _⟩ => ⟨S4x8192x1024, .f32⟩
  | .hbm, ⟨83, _⟩ => ⟨S4x8192x1024, .f32⟩
  | .hbm, ⟨84, _⟩ => ⟨S8192x4x1024, .f32⟩
  | .hbm, ⟨85, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_3 : Ref sig .tc := ⟨.hbm, 63, rfl⟩
abbrev main_v47 : Ref sig .tc := ⟨.hbm, 64, rfl⟩
abbrev main_v48 : Ref sig .tc := ⟨.hbm, 65, rfl⟩
abbrev main_cst_4 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Ple.lean ====
abbrev S8192x4096 : Shape := ⟨2, ![8192, 4096]⟩
abbrev S1x4x8192x256 : Shape := ⟨4, ![1, 4, 8192, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S4x8192x256 : Shape := ⟨3, ![4, 8192, 256]⟩
abbrev S1024x1024 : Shape := ⟨2, ![1024, 1024]⟩
abbrev S256x1024 : Shape := ⟨2, ![256, 1024]⟩
abbrev S4x8192x1024 : Shape := ⟨3, ![4, 8192, 1024]⟩
abbrev S512x1024 : Shape := ⟨2, ![512, 1024]⟩
abbrev S1x512x256 : Shape := ⟨3, ![1, 512, 256]⟩
abbrev S1x512x1024 : Shape := ⟨3, ![1, 512, 1024]⟩
abbrev S512 : Shape := ⟨1, ![512]⟩
abbrev S512x1 : Shape := ⟨2, ![512, 1]⟩
abbrev S512x256 : Shape := ⟨2, ![512, 256]⟩

abbrev nBuf : Space → Nat
  | .hbm => 15
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S1x4x8192x256, .f32⟩
  | .hbm, ⟨2, _⟩ => ⟨S1x1024, .f32⟩
  | .hbm, ⟨3, _⟩ => ⟨S1x1024x1024, .f32⟩
  | .hbm, ⟨4, _⟩ => ⟨S1x256x1024, .f32⟩
  | .hbm, ⟨5, _⟩ => ⟨S1024, .f32⟩
  | .hbm, ⟨6, _⟩ => ⟨S4x8192x256, .f32⟩
  | .hbm, ⟨7, _⟩ => ⟨S1024, .f32⟩
  | .hbm, ⟨8, _⟩ => ⟨S1x1024, .f32⟩
  | .hbm, ⟨9, _⟩ => ⟨S1024x1024, .f32⟩
  | .hbm, ⟨10, _⟩ => ⟨S1024x1024, .bf16⟩
  | .hbm, ⟨11, _⟩ => ⟨S256x1024, .f32⟩
  | .hbm, ⟨12, _⟩ => ⟨S256x1024, .bf16⟩
  | .hbm, ⟨13, _⟩ => ⟨S1x1024, .f32⟩
  | .hbm, ⟨14, _⟩ => ⟨S4x8192x1024, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PleRefIdeal.lean ====
abbrev S8192x4096 : Shape := ⟨2, ![8192, 4096]⟩
abbrev S1x4x8192x256 : Shape := ⟨4, ![1, 4, 8192, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S8192x4x1024 : Shape := ⟨3, ![8192, 4, 1024]⟩
abbrev S4x8192x1024 : Shape := ⟨3, ![4, 8192, 1024]⟩
abbrev S4x8192x256 : Shape := ⟨3, ![4, 8192, 256]⟩
abbrev S256x1024 : Shape := ⟨2, ![256, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x1024 : Shape := ⟨2, ![1024, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4x8192x256, .f32⟩
  | .hbm, ⟨2, _⟩ => ⟨S1x1024, .f32⟩
  | .hbm, ⟨3, _⟩ => ⟨S1x1024x1024, .f32⟩
  | .hbm, ⟨4, _⟩ => ⟨S1x256x1024, .f32⟩
  | .hbm, ⟨5, _⟩ => ⟨S1024, .f32⟩
  | .hbm, ⟨6, _⟩ => ⟨S8192x4x1024, .f32⟩
  | .hbm, ⟨7, _⟩ => ⟨S4x8192x1024, .f32⟩
  | .hbm, ⟨8, _⟩ => ⟨S4x8192x256, .f32⟩
  | .hbm, ⟨9, _⟩ => ⟨S256x1024, .f32⟩
  | .hbm, ⟨10, _⟩ => ⟨S4x8192x1024, .f32⟩
  | .hbm, ⟨11, _⟩ => ⟨S1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S1024x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S_, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S4x8192x1, .f32⟩
  | .hbm, ⟨51, _⟩ => ⟨S4x8192x1024, .f32⟩
  | .hbm, ⟨52, _⟩ => ⟨S4x8192x1024, .f32⟩
  | .hbm, ⟨53, _⟩ => ⟨S1x1x1024, .f32⟩
  | .hbm, ⟨54, _⟩ => ⟨S4x8192x1024, .f32⟩
  | .hbm, ⟨55, _⟩ => ⟨S4x8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Ffn2.lean ====
abbrev S8192x4096 : Shape := ⟨2, ![8192, 4096]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 14
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1x1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Ffn2RefIdeal.lean ====
abbrev S8192x4096 : Shape := ⟨2, ![8192, 4096]⟩
abbrev S1x1024 : Shape := ⟨2, ![1, 1024]⟩
abbrev S1x1024x2816 : Shape := ⟨3, ![1, 1024, 2816]⟩
abbrev S1x2816x1024 : Shape := ⟨3, ![1, 2816, 1024]⟩
abbrev S8192x4x1024 : Shape := ⟨3, ![8192, 4, 1024]⟩
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S4x8192x2816 : Shape := ⟨3, ![4, 8192, 2816]⟩

abbrev nBuf : Space → Nat
  | .hbm => 46
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S8192x4x1024, .f32⟩
  | .hbm, ⟨6, _⟩ => ⟨S4x8192x1024, .f32⟩
  | .hbm, ⟨7, _⟩ => ⟨S1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S1024x2816, .f32⟩
  | .hbm, ⟨25, _⟩ => ⟨S1024x2816, .f32⟩
  | .hbm, ⟨26, _⟩ => ⟨S2816x1024, .f32⟩
  | .hbm, ⟨27, _⟩ => ⟨S4x8192x2816, .f32⟩
  | .hbm, ⟨28, _⟩ => ⟨S4x8192x2816, .f32⟩
  | .hbm, ⟨29, _⟩ => ⟨S4x8192x2816, .f32⟩
  | .hbm, ⟨30, _⟩ => ⟨S_, .f32⟩
  | .hbm, ⟨31, _⟩ => ⟨S4x8192x2816, .f32⟩
  | .hbm, ⟨32, _⟩ => ⟨S4x8192x2816, .f32⟩
  | .hbm, ⟨33, _⟩ => ⟨S_, .f32⟩
  | .hbm, ⟨34, _⟩ => ⟨S4x8192x2816, .f32⟩
  | .hbm, ⟨35, _⟩ => ⟨S4x8192x2816, .f32⟩
  | .hbm, ⟨36, _⟩ => ⟨S4x8192x2816, .f32⟩
  | .hbm, ⟨37, _⟩ => ⟨S4x8192x2816, .f32⟩
  | .hbm, ⟨38, _⟩ => ⟨S4x8192x2816, .f32⟩
  | .hbm, ⟨39, _⟩ => ⟨S4x8192x1024, .f32⟩
  | .hbm, ⟨40, _⟩ => ⟨S_, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S8192x4x1024, .f32⟩
  | .hbm, ⟨45, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Proof.AttnHead.lean ====
/- What one pair of heads computes: the stored tile of 128 lanes, entry by entry, from the tiles of queries, keys,
   values and the two bias tiles. -/
module

public import proofs.«01_k».proof.Proof.Gen.AttnIdeal.Skeleton
public import Idealize.ShloMosaic.Lib.Pointwise

@[expose] public section

set_option maxRecDepth 16384

noncomputable section

namespace Cert.AttnIdeal.Head

open Cert.AttnIdeal Cert.AttnIdeal.Gen Idealize.ShloMosaic Idealize.SL.Sem

variable {F : FTy → Type} [FloatOps F]

/-- One head of a pair over all 128 lanes of the tile: the queries kept where `keep` holds and zero elsewhere. -/
def head (keep : IVec S64x128 1) (q : Vec F S64x128 .bf16) (k v : Vec F S512x128 .bf16) (b : Vec F S1x1x64x512 .f32) :
    FVec F S64x128 .f32 :=
  let s : FVec F S64x512 .f32 := addf
    (matmul dot_S64x128_S512x128_S64x512_1_1_0_0_n_n none
      (select keep q (broadcast S64x128 (Scalar.ofBits .bf16 0x0000#16))) k (constant S64x512 .f32 0x00000000#32))
    (shapeCast S64x512 b shapeCasts_S1x1x64x512_S64x512)
  let p : FVec F S64x512 .f32 := exp (subf s (broadcastTo S64x512
    (shapeCast S64x1 (multiReduction .maximumf [1] S64 s 0xFF800000#32 reduces_S64x512_S64 (.inl rfl) rfl) shapeCasts_S64_S64x1)
    broadcasts_S64x1_S64x512))
  divf (matmul dot_S64x512_S512x128_S64x128_1_0_0_1_n_n none (truncf .bf16 p bitsLt_bf16_f32) v
      (constant S64x128 .f32 0x00000000#32))
    (broadcastTo S64x128
      (shapeCast S64x1 (multiReduction .add [1] S64 p 0x00000000#32 reduces_S64x512_S64 (.inl rfl) rfl) shapeCasts_S64_S64x1)
      broadcasts_S64x1_S64x128)

/-- The tile of one pair: the first head in the lanes `k0_pay2` marks, the second in the others. -/
def pair (q : Vec F S64x128 .bf16) (k v : Vec F S512x128 .bf16) (b0 b1 : Vec F S1x1x64x512 .f32) : FVec F S64x128 .bf16 :=
  truncf .bf16 (select k0_pay2 (head k0_pay2 q k v b0) (head (xori k0_pay2 (constantI S64x128 1 1#1)) q k v b1)) bitsLt_bf16_f32

/-- The first stored tile is `pair`. -/
theorem pay5_eq (q : Vec F S64x128 .bf16) (k v : Vec F S512x128 .bf16) (b0 b1 : Vec F S1x1x64x512 .f32) :
    k0_pay5 k0_pay2 v (k0_pay3 q k v b0) (k0_pay4 q k) b1 = pair q k v b0 b1 := rfl
/-- The second stored tile is `pair`. -/
theorem pay7_eq (q : Vec F S64x128 .bf16) (k v : Vec F S512x128 .bf16) (b0 b1 : Vec F S1x1x64x512 .f32) :
    k0_pay7 k0_pay2 q k v (k0_pay6 k0_pay2 q k v b0) (constantI S64x128 1 1#1) b1 = pair q k v b0 b1 := rfl
/-- The third stored tile is `pair`. -/
theorem pay9_eq (q : Vec F S64x128 .bf16) (k v : Vec F S512x128 .bf16) (b0 b1 : Vec F S1x1x64x512 .f32) :
    k0_pay9 k0_pay2 q k v (k0_pay8 k0_pay2 q k b0) b1 = pair q k v b0 b1 := rfl
/-- The fourth stored tile is `pair`. -/
theorem pay1_eq (q : Vec F S64x128 .bf16) (k v : Vec F S512x128 .bf16) (b0 b1 : Vec F S1x1x64x512 .f32) :
    k0_pay1 k0_pay2 q k v (k0_pay10 k0_pay2 q k) b0 b1 = pair q k v b0 b1 := rfl

/-- Lane `l` is in the first half of the tile. -/
theorem first_apply (c : Fin 64) (l : Fin 128) : k0_pay2 (ix2 c l) = if l.val < 64 then 1#1 else 0#1 := by
  have h : ∀ l : Fin 128, IntOp.cmpi .slt (BitVec.ofNat 32 l.val) 64#32 = if l.val < 64 then 1#1 else 0#1 := by decide
  rw [← h l]
  pointwise [k0_pay2]

/-- One head's entry: the values weighed by the exponentials of the row less its greatest entry, over their sum. -/
theorem head_apply (keep : IVec S64x128 1) (q : Vec Ideal S64x128 .bf16) (k v : Vec Ideal S512x128 .bf16)
    (b : Vec Ideal S1x1x64x512 .f32) (c : Fin 64) (l : Fin 128) (s : Fin 512 → EReal)
    (hs : s = fun j : Fin 512 =>
      (∑ d : Fin 128, Scalar.select (keep (ix2 c d)) (q (ix2 c d) * k (ix2 j d)) (0 : EReal)) + b (ix4 0 0 c j)) :
    head (F := Ideal) keep q k v b (ix2 c l)
      = Ideal.div (∑ j, Ideal.exp (s j - Finset.univ.fold max ⊥ s) * v (ix2 j l))
          (∑ j, Ideal.exp (s j - Finset.univ.fold max ⊥ s)) := by
  subst hs
  pointwise [head]
  rw [show Ideal.ofBits FTy.f32 0xFF800000#32 = ⊥ by simp [Ideal.ofBits, Ideal.ieee]]

/-- A sum over the 128 lanes of what the first 64 hold. -/
theorem sum_first (f : Fin 128 → EReal) (keep : Fin 128 → BitVec 1) (hk : ∀ d, keep d = if d.val < 64 then 1#1 else 0#1) :
    ∑ d, Scalar.select (keep d) (f d) (0 : EReal) = ∑ d : Fin 64, f ⟨d.val, by omega⟩ := by
  rw [Fin.sum_univ_two_halves 64 64 rfl]
  have h1 : ∀ d : Fin 64, Scalar.select (keep ⟨d.val, by omega⟩) (f ⟨d.val, by omega⟩) (0 : EReal) = f ⟨d.val, by omega⟩ :=
    fun d => by rw [hk, if_pos d.isLt]; rfl
  have h2 : ∀ d : Fin 64, Scalar.select (keep ⟨64 + d.val, by omega⟩) (f ⟨64 + d.val, by omega⟩) (0 : EReal) = 0 :=
    fun d => by rw [hk, if_neg (by simp)]; rfl
  simp only [h1, h2, Finset.sum_const_zero, add_zero]

/-- A sum over the 128 lanes of what the last 64 hold. -/
theorem sum_last (f : Fin 128 → EReal) (keep : Fin 128 → BitVec 1) (hk : ∀ d, keep d = if d.val < 64 then 0#1 else 1#1) :
    ∑ d, Scalar.select (keep d) (f d) (0 : EReal) = ∑ d : Fin 64, f ⟨64 + d.val, by omega⟩ := by
  rw [Fin.sum_univ_two_halves 64 64 rfl]
  have h1 : ∀ d : Fin 64, Scalar.select (keep ⟨d.val, by omega⟩) (f ⟨d.val, by omega⟩) (0 : EReal) = 0 :=
    fun d => by rw [hk, if_pos d.isLt]; rfl
  have h2 : ∀ d : Fin 64, Scalar.select (keep ⟨64 + d.val, by omega⟩) (f ⟨64 + d.val, by omega⟩) (0 : EReal) = f ⟨64 + d.val, by omega⟩ :=
    fun d => by rw [hk, if_neg (by simp)]; rfl
  simp only [h1, h2, Finset.sum_const_zero, zero_add]

/-- Lane `l` is not in the first half of the tile. -/
theorem last_apply (c : Fin 64) (l : Fin 128) :
    xori k0_pay2 (constantI S64x128 1 1#1) (ix2 c l) = if l.val < 64 then 0#1 else 1#1 := by
  show IntOp.xori (k0_pay2 (ix2 c l)) 1#1 = _
  rw [first_apply]; split <;> rfl

/-- The entry of a pair's tile at row `c` and lane `l`, of the first head: its scores are products over the tile's first 64 lanes. -/
theorem pair_first (q : Vec Ideal S64x128 .bf16) (k v : Vec Ideal S512x128 .bf16)
    (b0 b1 : Vec Ideal S1x1x64x512 .f32) (c : Fin 64) (l : Fin 128) (hl : l.val < 64) (s : Fin 512 → EReal)
    (hs : ∀ j, s j = (∑ d : Fin 64, (q (ix2 c ⟨d.val, by omega⟩) * k (ix2 j ⟨d.val, by omega⟩) : EReal)) + b0 (ix4 0 0 c j)) :
    pair (F := Ideal) q k v b0 b1 (ix2 c l)
      = Ideal.div (∑ j, Ideal.exp (s j - Finset.univ.fold max ⊥ s) * v (ix2 j l))
          (∑ j, Ideal.exp (s j - Finset.univ.fold max ⊥ s)) := by
  rw [← head_apply k0_pay2 q k v b0 c l s (funext fun j => by
    rw [hs, sum_first (fun d => q (ix2 c d) * k (ix2 j d)) _ (first_apply c)])]
  show Scalar.select (k0_pay2 (ix2 c l)) _ _ = _
  rw [first_apply, if_pos hl]; rfl

/-- The entry of a pair's tile at row `c` and lane `l`, of the second head: its scores are products over the tile's last 64 lanes. -/
theorem pair_last (q : Vec Ideal S64x128 .bf16) (k v : Vec Ideal S512x128 .bf16)
    (b0 b1 : Vec Ideal S1x1x64x512 .f32) (c : Fin 64) (l : Fin 128) (hl : ¬ l.val < 64) (s : Fin 512 → EReal)
    (hs : ∀ j, s j = (∑ d : Fin 64, (q (ix2 c ⟨64 + d.val, by omega⟩) * k (ix2 j ⟨64 + d.val, by omega⟩) : EReal)) + b1 (ix4 0 0 c j)) :
    pair (F := Ideal) q k v b0 b1 (ix2 c l)
      = Ideal.div (∑ j, Ideal.exp (s j - Finset.univ.fold max ⊥ s) * v (ix2 j l))
          (∑ j, Ideal.exp (s j - Finset.univ.fold max ⊥ s)) := by
  rw [← head_apply _ q k v b1 c l s (funext fun j => by
    rw [hs, sum_last (fun d => q (ix2 c d) * k (ix2 j d)) _ (last_apply c)])]
  show Scalar.select (k0_pay2 (ix2 c l)) _ _ = _
  rw [first_apply, if_neg hl]; rfl

end Cert.AttnIdeal.Head

end

end
-- ==== Proof.AttnPiece.lean ====
/- The attention kernel's result, entry by entry, and one pair of heads of it. -/
module

public import proofs.«01_k».proof.Proof.Gen.AttnIdeal.Value
public import proofs.«01_k».proof.Proof.AttnHead
public import Idealize.ShloMosaic.Lib.Pipeline.ValueKit

@[expose] public section

set_option maxRecDepth 16384

noncomputable section

namespace Cert.AttnIdeal.Block

open Cert.AttnIdeal Cert.AttnIdeal.Gen Idealize.ShloMosaic Idealize.ShloMosaic.TcCoe Idealize.SL.Sem
open Idealize.ShloMosaic.Pipeline (Dat)

/-- The first row of the window of eight rows that row `r` of 128 sees. -/
def rs (r : ℕ) : ℕ := min (r - 4) 120

theorem rs_le (r : ℕ) : rs r ≤ 120 := by unfold rs; omega

/-- The windows' block indices and the first key row of every grid point `t`, whose batch is `t / 128` and row `t % 128`. -/
theorem idx_val : ∀ t : Fin cfg0.N, win0_0.index t = ![t.val % 128, t.val / 128] ∧ win0_1.index t = ![0, t.val / 128]
    ∧ win0_2.index t = ![0, t.val / 128] ∧ win0_3.index t = ![t.val % 128 - rs (t.val % 128), 0, 0, 0]
    ∧ win0_4.index t = ![t.val % 128, t.val / 128]
    ∧ k0_off1 (grid0.coords t) = ![rs (t.val % 128) * 64, 0] ∧ k0_off2 (grid0.coords t) = ![rs (t.val % 128) * 64, 128]
    ∧ k0_off3 (grid0.coords t) = ![rs (t.val % 128) * 64, 256] ∧ k0_off4 (grid0.coords t) = ![rs (t.val % 128) * 64, 384]
    ∧ t.val / 128 < 4 :=
  (by decide +kernel : ∀ t : Fin grid0.N, _)

/-- The scores of the 512 keys in the eight rows that token `n` sees, at the head whose columns start at `64 * g`. -/
def scores (Q K : FVec Ideal S8192x2048 .bf16) (B : FVec Ideal S8x8x64x512 .f32) (n : Fin 8192) (g : Fin 32) : Fin 512 → EReal :=
  fun j => (∑ d : Fin 64, Q (ix2 n ⟨g.val * 64 + d.val, by omega⟩)
      * K (ix2 ⟨rs (n.val / 64) * 64 + j.val, by have := rs_le (n.val / 64); omega⟩ ⟨g.val * 64 + d.val, by omega⟩))
    + B (ix4 ⟨n.val / 64 - rs (n.val / 64), by unfold rs; omega⟩ ⟨g.val % 8, by omega⟩ ⟨n.val % 64, by omega⟩ j)

/-- The kernel's result from queries, keys, values and the bias table. -/
def OUT (Q K V : FVec Ideal S8192x2048 .bf16) (B : FVec Ideal S8x8x64x512 .f32) : FVec Ideal S8192x2048 .bf16 := fun i =>
  let s := scores Q K B ⟨(i 0).val, (i 0).isLt⟩ ⟨(i 1).val / 64, by have : (i 1).val < 2048 := (i 1).isLt; omega⟩
  Ideal.div (∑ j : Fin 512, Ideal.exp (s j - Finset.univ.fold max ⊥ s)
      * V (ix2 ⟨rs ((i 0).val / 64) * 64 + j.val, by have := rs_le ((i 0).val / 64); omega⟩ ⟨(i 1).val, (i 1).isLt⟩))
    (∑ j : Fin 512, Ideal.exp (s j - Finset.univ.fold max ⊥ s))

/-- A pair of heads, whose blocks are cut from the whole arrays at row `r`, batch and pair `g = 4 * batch + pair`, is the kernel's result there. -/
theorem piece (Q K V : FVec Ideal S8192x2048 .bf16) (B : FVec Ideal S8x8x64x512 .f32) (q : FVec Ideal S64x128 .bf16)
    (k v : FVec Ideal S512x128 .bf16) (b0 b1 : FVec Ideal S1x1x64x512 .f32) (r : Fin 128) (g : Fin 16)
    (p : Fin 4) (hp : g.val % 4 = p.val)
    (hq : ∀ (c : Fin 64) (l : Fin 128), q (ix2 c l) = Q (ix2 ⟨r.val * 64 + c.val, by omega⟩ ⟨g.val * 128 + l.val, by omega⟩))
    (hk : ∀ (j : Fin 512) (l : Fin 128), k (ix2 j l)
      = K (ix2 ⟨rs r.val * 64 + j.val, by have := rs_le r.val; omega⟩ ⟨g.val * 128 + l.val, by omega⟩))
    (hv : ∀ (j : Fin 512) (l : Fin 128), v (ix2 j l)
      = V (ix2 ⟨rs r.val * 64 + j.val, by have := rs_le r.val; omega⟩ ⟨g.val * 128 + l.val, by omega⟩))
    (hb0 : ∀ (c : Fin 64) (j : Fin 512), b0 (ix4 0 0 c j)
      = B (ix4 ⟨r.val - rs r.val, by unfold rs; omega⟩ ⟨2 * p.val, by omega⟩ c j))
    (hb1 : ∀ (c : Fin 64) (j : Fin 512), b1 (ix4 0 0 c j)
      = B (ix4 ⟨r.val - rs r.val, by unfold rs; omega⟩ ⟨2 * p.val + 1, by omega⟩ c j))
    (x : S64x128.Idx) (i : S8192x2048.Idx) (h0 : (i 0).val = r.val * 64 + (x 0).val) (h1 : (i 1).val = g.val * 128 + (x 1).val) :
    Head.pair q k v b0 b1 x = OUT Q K V B i := by
  obtain ⟨c, l, rfl⟩ : ∃ (c : Fin 64) (l : Fin 128), x = ix2 c l := ⟨x 0, x 1, by funext a; fin_cases a <;> rfl⟩
  change (i 0).val = r.val * 64 + c.val at h0
  change (i 1).val = g.val * 128 + l.val at h1
  have hi : i = ix2 (⟨r.val * 64 + c.val, by omega⟩ : Fin 8192) (⟨g.val * 128 + l.val, by omega⟩ : Fin 2048) := by
    funext a; fin_cases a
    · exact Fin.ext h0
    · exact Fin.ext h1
  rw [hi]
  have hr : (r.val * 64 + c.val) / 64 = r.val := by omega
  have hc : (r.val * 64 + c.val) % 64 = c.val := by omega
  have hO : OUT Q K V B (ix2 (⟨r.val * 64 + c.val, by omega⟩ : Fin 8192) (⟨g.val * 128 + l.val, by omega⟩ : Fin 2048))
      = (let s := scores Q K B ⟨r.val * 64 + c.val, by omega⟩ ⟨(g.val * 128 + l.val) / 64, by omega⟩
        Ideal.div (∑ j : Fin 512, Ideal.exp (s j - Finset.univ.fold max ⊥ s) * v (ix2 j l))
          (∑ j : Fin 512, Ideal.exp (s j - Finset.univ.fold max ⊥ s))) := by
    simp only [OUT, hv]
    congr 1
    refine Finset.sum_congr rfl fun j _ => ?_
    congr 2
    funext a; fin_cases a
    · exact Fin.ext (by change rs ((r.val * 64 + c.val) / 64) * 64 + j.val = rs r.val * 64 + j.val; rw [hr])
    · rfl
  rw [hO]
  by_cases hl : l.val < 64
  · refine Head.pair_first q k v b0 b1 c l hl _ fun j => ?_
    simp only [scores, hq, hk, hb0]
    congr 1
    · refine Finset.sum_congr rfl fun d _ => ?_
      congr 2 <;> funext a <;> fin_cases a <;> refine Fin.ext ?_
      · rfl
      · change (g.val * 128 + l.val) / 64 * 64 + d.val = g.val * 128 + d.val; omega
      · change rs ((r.val * 64 + c.val) / 64) * 64 + j.val = rs r.val * 64 + j.val; rw [hr]
      · change (g.val * 128 + l.val) / 64 * 64 + d.val = g.val * 128 + d.val; omega
    · congr 1
      funext a; fin_cases a <;> refine Fin.ext ?_
      · change (r.val * 64 + c.val) / 64 - rs ((r.val * 64 + c.val) / 64) = r.val - rs r.val; rw [hr]
      · change (g.val * 128 + l.val) / 64 % 8 = 2 * p.val; omega
      · exact hc
      · rfl
  · refine Head.pair_last q k v b0 b1 c l hl _ fun j => ?_
    simp only [scores, hq, hk, hb1]
    congr 1
    · refine Finset.sum_congr rfl fun d _ => ?_
      congr 2 <;> funext a <;> fin_cases a <;> refine Fin.ext ?_
      · rfl
      · change (g.val * 128 + l.val) / 64 * 64 + d.val = g.val * 128 + (64 + d.val); omega
      · change rs ((r.val * 64 + c.val) / 64) * 64 + j.val = rs r.val * 64 + j.val; rw [hr]
      · change (g.val * 128 + l.val) / 64 * 64 + d.val = g.val * 128 + (64 + d.val); omega
    · congr 1
      funext a; fin_cases a <;> refine Fin.ext ?_
      · change (r.val * 64 + c.val) / 64 - rs ((r.val * 64 + c.val) / 64) = r.val - rs r.val; rw [hr]
      · change (g.val * 128 + l.val) / 64 % 8 = 2 * p.val + 1; omega
      · exact hc
      · rfl

end Cert.AttnIdeal.Block

end

end
-- ==== Proof.AttnBlock.lean ====
/- The array the attention kernel leaves. -/
module

public import proofs.«01_k».proof.Proof.AttnPiece

@[expose] public section

set_option maxRecDepth 16384

noncomputable section

namespace Cert.AttnIdeal.Block

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

theorem batch_lt (t : Fin cfg0.N) : t.val / 128 < 4 := (idx_val t).2.2.2.2.2.2.2.2.2

/-- The block of the bias table at grid point `t`. -/
theorem block3 (c : Dev nD) (t : Fin cfg0.N) (h : Fin 8) (a : Fin 64) (j : Fin 512) :
    iblk m c 3 t (ix4 0 h a j) = V m c main_v53 (ix4 ⟨t.val % 128 - rs (t.val % 128), by unfold rs; omega⟩ h a j) := by
  have e : iblk m c 3 t = View.read (Elt Ideal) ((cfg0.win 3).blk t).view (V m c main_v53) := rfl
  rw [e]
  generalize V m c main_v53 = B
  blk_point [idx_val t]

set_option maxHeartbeats 2000000 in
/-- What grid point `t` leaves at entry `y` of its output block. -/
theorem point (c : Dev nD) (t : Fin cfg0.N) (y : S64x512.Idx) : outsAt0 m c t y
    = OUT (m ((c : Thread nD τ).loc main_arg0)) (m ((c : Thread nD τ).loc main_arg1)) (m ((c : Thread nD τ).loc main_arg2))
        (V m c main_v53) (((cfg0.win 4).blk t).view.emb y) := by
  unfold outsAt0
  frame_out
  canon_tiles x h
  · rw [Head.pay1_eq]
    obtain ⟨r, hr⟩ : ∃ r : Fin 128, r.val = t.val % 128 := ⟨⟨t.val % 128, by omega⟩, rfl⟩
    obtain ⟨g, hg⟩ : ∃ g : Fin 16, g.val = t.val / 128 * 4 + 3 := ⟨⟨t.val / 128 * 4 + 3, by have := batch_lt t; omega⟩, rfl⟩
    refine piece _ _ _ _ _ _ _ _ _ r g 3 ?_ ?_ ?_ ?_ ?_ ?_ _ _ ?_ ?_
    · change g.val % 4 = 3; omega
    · intro c l; blk_point [iblk, idx_val t]
    · intro j l; blk_point [iblk, idx_val t]; rw [hr]
    · intro j l; blk_point [iblk, idx_val t]; rw [hr]
    · intro a j
      refine Eq.trans ?_ ((block3 m c t 6 a j).trans ?_)
      · generalize iblk m c 3 t = B
        exact congrArg B (by funext e; fin_cases e <;> refine Fin.ext ?_ <;> first | rfl | (simp; done))
      · generalize V m c main_v53 = B
        refine congrArg B ?_
        funext e; fin_cases e <;> refine Fin.ext ?_
        · change t.val % 128 - rs (t.val % 128) = r.val - rs r.val; rw [hr]
        · rfl
        · rfl
        · rfl
    · intro a j
      refine Eq.trans ?_ ((block3 m c t 7 a j).trans ?_)
      · generalize iblk m c 3 t = B
        exact congrArg B (by funext e; fin_cases e <;> refine Fin.ext ?_ <;> first | rfl | (simp; done))
      · generalize V m c main_v53 = B
        refine congrArg B ?_
        funext e; fin_cases e <;> refine Fin.ext ?_
        · change t.val % 128 - rs (t.val % 128) = r.val - rs r.val; rw [hr]
        · rfl
        · rfl
        · rfl
    · blk_simp [idx_val t]; have := batch_lt t; omega
    · blk_simp [idx_val t]; have := batch_lt t; omega
  · rw [Head.pay9_eq]
    obtain ⟨r, hr⟩ : ∃ r : Fin 128, r.val = t.val % 128 := ⟨⟨t.val % 128, by omega⟩, rfl⟩
    obtain ⟨g, hg⟩ : ∃ g : Fin 16, g.val = t.val / 128 * 4 + 2 := ⟨⟨t.val / 128 * 4 + 2, by have := batch_lt t; omega⟩, rfl⟩
    refine piece _ _ _ _ _ _ _ _ _ r g 2 ?_ ?_ ?_ ?_ ?_ ?_ _ _ ?_ ?_
    · change g.val % 4 = 2; omega
    · intro c l; blk_point [iblk, idx_val t]
    · intro j l; blk_point [iblk, idx_val t]; rw [hr]
    · intro j l; blk_point [iblk, idx_val t]; rw [hr]
    · intro a j
      refine Eq.trans ?_ ((block3 m c t 4 a j).trans ?_)
      · generalize iblk m c 3 t = B
        exact congrArg B (by funext e; fin_cases e <;> refine Fin.ext ?_ <;> first | rfl | (simp; done))
      · generalize V m c main_v53 = B
        refine congrArg B ?_
        funext e; fin_cases e <;> refine Fin.ext ?_
        · change t.val % 128 - rs (t.val % 128) = r.val - rs r.val; rw [hr]
        · rfl
        · rfl
        · rfl
    · intro a j
      refine Eq.trans ?_ ((block3 m c t 5 a j).trans ?_)
      · generalize iblk m c 3 t = B
        exact congrArg B (by funext e; fin_cases e <;> refine Fin.ext ?_ <;> first | rfl | (simp; done))
      · generalize V m c main_v53 = B
        refine congrArg B ?_
        funext e; fin_cases e <;> refine Fin.ext ?_
        · change t.val % 128 - rs (t.val % 128) = r.val - rs r.val; rw [hr]
        · rfl
        · rfl
        · rfl
    · blk_simp [idx_val t]; have := batch_lt t; omega
    · blk_simp [idx_val t]; have := batch_lt t; omega
  · rw [Head.pay7_eq]
    obtain ⟨r, hr⟩ : ∃ r : Fin 128, r.val = t.val % 128 := ⟨⟨t.val % 128, by omega⟩, rfl⟩
    obtain ⟨g, hg⟩ : ∃ g : Fin 16, g.val = t.val / 128 * 4 + 1 := ⟨⟨t.val / 128 * 4 + 1, by have := batch_lt t; omega⟩, rfl⟩
    refine piece _ _ _ _ _ _ _ _ _ r g 1 ?_ ?_ ?_ ?_ ?_ ?_ _ _ ?_ ?_
    · change g.val % 4 = 1; omega
    · intro c l; blk_point [iblk, idx_val t]
    · intro j l; blk_point [iblk, idx_val t]; rw [hr]
    · intro j l; blk_point [iblk, idx_val t]; rw [hr]
    · intro a j
      refine Eq.trans ?_ ((block3 m c t 2 a j).trans ?_)
      · generalize iblk m c 3 t = B
        exact congrArg B (by funext e; fin_cases e <;> refine Fin.ext ?_ <;> first | rfl | (simp; done))
      · generalize V m c main_v53 = B
        refine congrArg B ?_
        funext e; fin_cases e <;> refine Fin.ext ?_
        · change t.val % 128 - rs (t.val % 128) = r.val - rs r.val; rw [hr]
        · rfl
        · rfl
        · rfl
    · intro a j
      refine Eq.trans ?_ ((block3 m c t 3 a j).trans ?_)
      · generalize iblk m c 3 t = B
        exact congrArg B (by funext e; fin_cases e <;> refine Fin.ext ?_ <;> first | rfl | (simp; done))
      · generalize V m c main_v53 = B
        refine congrArg B ?_
        funext e; fin_cases e <;> refine Fin.ext ?_
        · change t.val % 128 - rs (t.val % 128) = r.val - rs r.val; rw [hr]
        · rfl
        · rfl
        · rfl
    · blk_simp [idx_val t]; have := batch_lt t; omega
    · blk_simp [idx_val t]; have := batch_lt t; omega
  · rw [Head.pay5_eq]
    obtain ⟨r, hr⟩ : ∃ r : Fin 128, r.val = t.val % 128 := ⟨⟨t.val % 128, by omega⟩, rfl⟩
    obtain ⟨g, hg⟩ : ∃ g : Fin 16, g.val = t.val / 128 * 4 + 0 := ⟨⟨t.val / 128 * 4 + 0, by have := batch_lt t; omega⟩, rfl⟩
    refine piece _ _ _ _ _ _ _ _ _ r g 0 ?_ ?_ ?_ ?_ ?_ ?_ _ _ ?_ ?_
    · change g.val % 4 = 0; omega
    · intro c l; blk_point [iblk, idx_val t]
    · intro j l; blk_point [iblk, idx_val t]; rw [hr]
    · intro j l; blk_point [iblk, idx_val t]; rw [hr]
    · intro a j
      refine Eq.trans ?_ ((block3 m c t 0 a j).trans ?_)
      · generalize iblk m c 3 t = B
        exact congrArg B (by funext e; fin_cases e <;> refine Fin.ext ?_ <;> first | rfl | (simp; done))
      · generalize V m c main_v53 = B
        refine congrArg B ?_
        funext e; fin_cases e <;> refine Fin.ext ?_
        · change t.val % 128 - rs (t.val % 128) = r.val - rs r.val; rw [hr]
        · rfl
        · rfl
        · rfl
    · intro a j
      refine Eq.trans ?_ ((block3 m c t 1 a j).trans ?_)
      · generalize iblk m c 3 t = B
        exact congrArg B (by funext e; fin_cases e <;> refine Fin.ext ?_ <;> first | rfl | (simp; done))
      · generalize V m c main_v53 = B
        refine congrArg B ?_
        funext e; fin_cases e <;> refine Fin.ext ?_
        · change t.val % 128 - rs (t.val % 128) = r.val - rs r.val; rw [hr]
        · rfl
        · rfl
        · rfl
    · blk_simp [idx_val t]; have := batch_lt t; omega
    · blk_simp [idx_val t]; have := batch_lt t; omega

/-- The array after the run. -/
theorem final (c : Dev nD) : (dats m 0 c).arrAt 4 (cfgs 0).N
    = OUT (m ((c : Thread nD τ).loc main_arg0)) (m ((c : Thread nD τ).loc main_arg1)) (m ((c : Thread nD τ).loc main_arg2))
        (V m c main_v53) := by
  refine (dats m 0 c).arrAt_eq_of_covers 4 _ (by decide +kernel) fun t _ y => ?_
  blk_simp
  rw [after0_4]
  exact point m c t y

end Cert.AttnIdeal.Block

end

end
-- ==== Proof.AttnTable.lean ====
/- The bias table that the host prepares for the attention kernel, entry by entry. -/
module

public import proofs.«01_k».proof.Proof.Gen.AttnIdeal.Value
public import Idealize.ShloMosaic.Lib.Pipeline.ValueKit
public import Idealize.ShloMosaic.Lib.Pointwise

@[expose] public section

set_option maxRecDepth 16384

noncomputable section

namespace Cert.AttnIdeal.Table

open Cert.AttnIdeal Cert.AttnIdeal.Gen Idealize.ShloMosaic Idealize.ShloMosaic.TcCoe Idealize.SL.Sem

/-- The row offset of key row `kr` under window variant `var`, as the host computes it. -/
def rowOff : IVec S8x8x1x1 32 :=
  let d : IVec S8x8 32 := addi (subi (broadcastInDim S8x8 ![0, 1] bcast_S1x8_S8x8_0_1 (broadcastInDim S1x8 ![1] bcast_S8_S1x8_1 (iotaInDim S8 32 0)))
    (broadcastInDim S8x8 ![0, 1] bcast_S8x1_S8x8_0_1 (broadcastInDim S8x1 ![0] bcast_S8_S8x1_0 (iotaInDim S8 32 0))))
    (broadcastInDim S8x8 ![] bcast_S_S8x8 (constantI S_ 32 7#32))
  let e : IVec S8x8x1x1 32 := broadcastInDim S8x8x1x1 ![0, 1] bcast_S8x8_S8x8x1x1_0_1 d
  select (cmpi .slt e (broadcastInDim S8x8x1x1 ![] bcast_S_S8x8x1x1 (constantI S_ 32 0#32)))
    (addi e (broadcastInDim S8x8x1x1 ![] bcast_S_S8x8x1x1 (constantI S_ 32 15#32))) e

/-- The columns `0 … 63` down the rows. -/
def colsDown : IVec S64x1 32 := broadcastInDim S64x1 ![0] bcast_S64_S64x1_0 (iotaInDim S64 32 0)

/-- The columns `0 … 63` along the row. -/
def colsAcross : IVec S1x64 32 := broadcastInDim S1x64 ![1] bcast_S64_S1x64_1 (iotaInDim S64 32 0)

/-- The first column of every column's window. -/
def colStart : IVec S64x1 32 :=
  minsi (broadcastInDim S64x1 ![] bcast_S_S64x1 (constantI S_ 32 48#32))
    (maxsi (broadcastInDim S64x1 ![] bcast_S_S64x1 (constantI S_ 32 0#32))
      (subi colsDown (broadcastInDim S64x1 ![] bcast_S_S64x1 (constantI S_ 32 8#32))))

/-- Whether key column `kc` is in the window of column `c`. -/
def inside : IVec S64x64 1 :=
  andi (cmpi .sge (broadcastInDim S64x64 ![0, 1] bcast_S1x64_S64x64_0_1 colsAcross) (broadcastInDim S64x64 ![0, 1] bcast_S64x1_S64x64_0_1 colStart))
    (cmpi .slt (broadcastInDim S64x64 ![0, 1] bcast_S1x64_S64x64_0_1 colsAcross)
      (broadcastInDim S64x64 ![0, 1] bcast_S64x1_S64x64_0_1 (addi colStart (broadcastInDim S64x1 ![] bcast_S_S64x1 (constantI S_ 32 16#32)))))

/-- The column offset of key column `kc` from column `c`, clipped to the table. -/
def colOff : IVec S1x1x64x64 32 :=
  let d : IVec S64x64 32 := minsi (broadcastInDim S64x64 ![] bcast_S_S64x64 (constantI S_ 32 30#32))
    (maxsi (broadcastInDim S64x64 ![] bcast_S_S64x64 (constantI S_ 32 0#32))
      (addi (subi (broadcastInDim S64x64 ![0, 1] bcast_S1x64_S64x64_0_1 colsAcross) (broadcastInDim S64x64 ![0, 1] bcast_S64x1_S64x64_0_1 colsDown))
        (broadcastInDim S64x64 ![] bcast_S_S64x64 (constantI S_ 32 15#32))))
  let e : IVec S1x1x64x64 32 := broadcastInDim S1x1x64x64 ![2, 3] bcast_S64x64_S1x1x64x64_2_3 d
  select (cmpi .slt e (broadcastInDim S1x1x64x64 ![] bcast_S_S1x1x64x64 (constantI S_ 32 0#32)))
    (addi e (broadcastInDim S1x1x64x64 ![] bcast_S_S1x1x64x64 (constantI S_ 32 31#32))) e

/-- The pairs of offsets at which the bias is looked up. -/
def offs : IVec S8x8x64x64x2 32 :=
  concatenate S8x8x64x64x2 4
    [⟨S8x8x64x64x1, broadcastInDim S8x8x64x64x1 ![0, 1, 2, 3] bcast_S8x8x64x64_S8x8x64x64x1_0_1_2_3
        (broadcastInDim S8x8x64x64 ![0, 1, 2, 3] bcast_S8x8x1x1_S8x8x64x64_0_1_2_3 rowOff)⟩,
     ⟨S8x8x64x64x1, broadcastInDim S8x8x64x64x1 ![0, 1, 2, 3] bcast_S8x8x64x64_S8x8x64x64x1_0_1_2_3
        (broadcastInDim S8x8x64x64 ![0, 1, 2, 3] bcast_S1x1x64x64_S8x8x64x64_0_1_2_3 colOff)⟩]
    concatenates_S8x8x64x64x1_S8x8x64x64x1_S8x8x64x64x2_d4

/-- The bias table, as the host computes it from the relative bias. -/
def table (rpb : FVec Ideal S1x8x15x31 .f32) : FVec Ideal S8x8x64x512 .f32 :=
  shapeCast S8x8x64x512 (transpose S8x8x64x8x64 [1, 0, 3, 2, 4]
    (select (broadcastInDim S8x8x8x64x64 ![0, 1, 2, 3, 4] bcast_S1x1x1x64x64_S8x8x8x64x64_0_1_2_3_4
        (broadcastInDim S1x1x1x64x64 ![3, 4] bcast_S64x64_S1x1x1x64x64_3_4 inside))
      (Host.gather gather_S8x15x31_S8x8x64x64x2_S8x8x8x64x64_0_12_n_n_12_4_811 (shapeCast S8x15x31 rpb shapeCasts_S1x8x15x31_S8x15x31) offs)
      (broadcastInDim S8x8x8x64x64 ![] bcast_S_S8x8x8x64x64 (constant S_ .f32 0xFF800000#32)))
    transposes_S8x8x8x64x64_S8x8x64x8x64_1_0_3_2_4) shapeCasts_S8x8x64x8x64_S8x8x64x512

variable (m : (ℓ : Loc nD τ sig) → Buf (Elt Ideal) ℓ)

/-- The table that the kernel's fourth window reads. -/
theorem entry (c : Dev nD) : (V m c main_v53 : FVec Ideal S8x8x64x512 .f32) = table (m ((c : Thread nD τ).loc main_arg3)) := by
  simp only [V, List.flatten_cons, List.flatten_nil, List.cons_append, List.nil_append, List.append_nil]
  entry_read
  rfl

theorem rowOff_val : ∀ v k : Fin 8, (rowOff (ix4 v k 0 0)).toInt.toNat = k.val + 7 - v.val := by decide +kernel

theorem colOff_val : ∀ a b : Fin 64, (colOff (ix4 0 0 a b)).toInt.toNat = min (b.val + 15 - a.val) 30 := by decide +kernel

/-- The window of column `a` is the sixteen columns from `min (a - 8) 48`. -/
theorem inside_val : ∀ a b : Fin 64, inside (ix2 a b) = if min (a.val - 8) 48 ≤ b.val ∧ b.val < min (a.val - 8) 48 + 16 then 1#1 else 0#1 := by
  decide +kernel

theorem offs_row (v k : Fin 8) (a b : Fin 64) : offs (ix5 v k a b 0) = rowOff (ix4 v k 0 0) := by
  unfold offs
  pointwise

theorem offs_col (v k : Fin 8) (a b : Fin 64) : offs (ix5 v k a b 1) = colOff (ix4 0 0 a b) := by
  unfold offs
  pointwise

/-- The look-up reads the relative bias at the pair of offsets. -/
theorem gather_val (x : FVec Ideal S8x15x31 .f32) (h v k : Fin 8) (a b : Fin 64) :
    Host.gather gather_S8x15x31_S8x8x64x64x2_S8x8x8x64x64_0_12_n_n_12_4_811 x offs (ix5 h v k a b)
      = x (ix3 h ⟨min (k.val + 7 - v.val) 14, by omega⟩ ⟨min (b.val + 15 - a.val) 30, by omega⟩) := by
  unfold Host.gather
  congr 1
  funext e
  refine Fin.ext ?_
  match e with
  | ⟨0, _⟩ => exact (show 0 + 0 + h.val = h.val by omega)
  | ⟨1, _⟩ =>
    have hs : (gather_S8x15x31_S8x8x64x64x2_S8x8x8x64x64_0_12_n_n_12_4_811).start (ix5 h v k a b) offs 1
        = min (offs (ix5 v k a b 0)).toInt.toNat 14 := by
      unfold GatherDims.start
      rw [dif_pos (by decide)]
      congr 4
      funext d; refine Fin.ext ?_
      match d with
      | ⟨0, _⟩ => rfl
      | ⟨1, _⟩ => rfl
      | ⟨2, _⟩ => rfl
      | ⟨3, _⟩ => rfl
      | ⟨4, _⟩ => rfl
    rw [offs_row, rowOff_val] at hs
    change gather_S8x15x31_S8x8x64x64x2_S8x8x8x64x64_0_12_n_n_12_4_811.start (ix5 h v k a b) offs 1 + gather_S8x15x31_S8x8x64x64x2_S8x8x8x64x64_0_12_n_n_12_4_811.batchCoord (ix5 h v k a b) 1 + gather_S8x15x31_S8x8x64x64x2_S8x8x8x64x64_0_12_n_n_12_4_811.offCoord (ix5 h v k a b) 1 = _
    rw [hs, show gather_S8x15x31_S8x8x64x64x2_S8x8x8x64x64_0_12_n_n_12_4_811.batchCoord (ix5 h v k a b) 1 = 0 from rfl, show gather_S8x15x31_S8x8x64x64x2_S8x8x8x64x64_0_12_n_n_12_4_811.offCoord (ix5 h v k a b) 1 = 0 from rfl]
    rfl
  | ⟨2, _⟩ =>
    have hs : (gather_S8x15x31_S8x8x64x64x2_S8x8x8x64x64_0_12_n_n_12_4_811).start (ix5 h v k a b) offs 2
        = min (offs (ix5 v k a b 1)).toInt.toNat 30 := by
      unfold GatherDims.start
      rw [dif_pos (by decide)]
      congr 4
      funext d; refine Fin.ext ?_
      match d with
      | ⟨0, _⟩ => rfl
      | ⟨1, _⟩ => rfl
      | ⟨2, _⟩ => rfl
      | ⟨3, _⟩ => rfl
      | ⟨4, _⟩ => rfl
    rw [offs_col, colOff_val, Nat.min_assoc, Nat.min_self] at hs
    change gather_S8x15x31_S8x8x64x64x2_S8x8x8x64x64_0_12_n_n_12_4_811.start (ix5 h v k a b) offs 2 + gather_S8x15x31_S8x8x64x64x2_S8x8x8x64x64_0_12_n_n_12_4_811.batchCoord (ix5 h v k a b) 2 + gather_S8x15x31_S8x8x64x64x2_S8x8x8x64x64_0_12_n_n_12_4_811.offCoord (ix5 h v k a b) 2 = _
    rw [hs, show gather_S8x15x31_S8x8x64x64x2_S8x8x8x64x64_0_12_n_n_12_4_811.batchCoord (ix5 h v k a b) 2 = 0 from rfl, show gather_S8x15x31_S8x8x64x64x2_S8x8x8x64x64_0_12_n_n_12_4_811.offCoord (ix5 h v k a b) 2 = 0 from rfl]
    rfl

/-- The table at variant `v`, head `h`, column `a` and key `j = 64 * row + column`: the relative bias inside the window, `-∞` outside it. -/
theorem table_val (rpb : FVec Ideal S1x8x15x31 .f32) (v h : Fin 8) (a : Fin 64) (j : Fin 512) :
    table rpb (ix4 v h a j) = if min (a.val - 8) 48 ≤ j.val % 64 ∧ j.val % 64 < min (a.val - 8) 48 + 16 then
      rpb (ix4 0 h ⟨min (j.val / 64 + 7 - v.val) 14, by omega⟩ ⟨min (j.val % 64 + 15 - a.val) 30, by omega⟩) else (⊥ : EReal) := by
  have h1 := gather_val (shapeCast S8x15x31 rpb shapeCasts_S1x8x15x31_S8x15x31) h v ⟨j.val / 64, by omega⟩ a ⟨j.val % 64, by omega⟩
  have h2 := inside_val a ⟨j.val % 64, by omega⟩
  have h3 : Ideal.ofBits FTy.f32 0xFF800000#32 = ⊥ := by simp [Ideal.ofBits, Ideal.ieee]
  unfold table
  pointwise
  rw [h1, h2, h3]
  split
  · unfold Scalar.select
    refine Eq.trans (if_pos rfl) ?_
    pointwise
  · rfl

end Cert.AttnIdeal.Table

end

end
-- ==== Proof.Softmax.lean ====
/- A softmax-weighted sum over a masked row of 512 entries, as the sum over the 128 entries kept. -/
module

public import Idealize.ShloMosaic.PureOps.Ideal
public import Mathlib.Data.EReal.Operations
public import Mathlib.Data.EReal.Inv

@[expose] public section

noncomputable section

namespace Cert.Softmax

open Idealize.ShloMosaic

/-- Multiplication by a nonnegative real distributes over a finite sum of extended reals. -/
theorem mul_sum_coe {ι : Type*} (S : Finset ι) (c : ℝ) (hc : 0 ≤ c) (f : ι → EReal) :
    (c : EReal) * ∑ n ∈ S, f n = ∑ n ∈ S, (c : EReal) * f n := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

/-- A finite sum of reals, read as an extended real, is the sum of its terms read so. -/
theorem coe_sum {ι : Type*} (S : Finset ι) (f : ι → ℝ) : ((∑ n ∈ S, f n : ℝ) : EReal) = ∑ n ∈ S, (f n : EReal) := by
  classical
  induction S using Finset.induction_on with
  | empty => simp
  | insert a S ha ih => rw [Finset.sum_insert ha, Finset.sum_insert ha, EReal.coe_add, ih]

/-- The greatest of a family of extended reals is its value at `n₀`, when no other value exceeds that one. -/
theorem fold_max_eq {ι : Type*} [Fintype ι] (s : ι → EReal) (n₀ : ι) (h : ∀ n, s n ≤ s n₀) :
    Finset.univ.fold max ⊥ s = s n₀ :=
  le_antisymm ((Finset.fold_max_le _).2 ⟨bot_le, fun n _ => h n⟩)
    ((Finset.le_fold_max _).2 (Or.inr ⟨n₀, Finset.mem_univ _, le_rfl⟩))

/-- MASKED SOFTMAX. A row `s` is `−∞` off the injective image of `e` and real on it. Exponentials of the row less
    its greatest entry weigh the values `v`; their sum, divided by the sum of the weights, is the sum over the image of
    `e` alone of the weights divided one by one. -/
theorem masked {N n : ℕ} (hn : 0 < n) (s v : Fin N → EReal) (e : Fin n → Fin N) (he : Function.Injective e)
    (hoff : ∀ j, (∀ i, e i ≠ j) → s j = ⊥) (hreal : ∀ i, ∃ x : ℝ, s (e i) = x) :
    Ideal.div (∑ j, Ideal.exp (s j - Finset.univ.fold max ⊥ s) * v j) (∑ j, Ideal.exp (s j - Finset.univ.fold max ⊥ s))
      = ∑ i, Ideal.div (Ideal.exp (s (e i) - Finset.univ.fold max ⊥ fun i => s (e i)))
          (∑ i, Ideal.exp (s (e i) - Finset.univ.fold max ⊥ fun i => s (e i))) * v (e i) := by
  choose x hx using hreal
  obtain ⟨i₀, -, h₀⟩ := Finset.exists_max_image (Finset.univ : Finset (Fin n)) x ⟨⟨0, hn⟩, Finset.mem_univ _⟩
  have hle : ∀ i, s (e i) ≤ s (e i₀) := fun i => by
    rw [hx, hx]; exact_mod_cast h₀ i (Finset.mem_univ _)
  have hbot : ∀ j, j ∉ Set.range e → s j = ⊥ := fun j hj => hoff j fun i hi => hj ⟨i, hi⟩
  have hM : Finset.univ.fold max ⊥ s = s (e i₀) := fold_max_eq s (e i₀) fun j => by
    by_cases hj : j ∈ Set.range e
    · obtain ⟨i, rfl⟩ := hj; exact hle i
    · rw [hbot j hj]; exact bot_le
  have hM' : (Finset.univ.fold max ⊥ fun i => s (e i)) = s (e i₀) := fold_max_eq (fun i => s (e i)) i₀ hle
  rw [hM, hM']
  have hp : ∀ i, Ideal.exp (s (e i) - s (e i₀)) = ((Real.exp (x i - x i₀) : ℝ) : EReal) := fun i => by
    rw [hx, hx, ← EReal.coe_sub, Ideal.exp_coe]
  have hz : ∀ j, j ∉ Set.range e → Ideal.exp (s j - s (e i₀)) = 0 := fun j hj => by
    rw [hbot j hj, EReal.bot_sub, Ideal.exp_bot]
  have h1 : ∑ j, Ideal.exp (s j - s (e i₀)) * v j = ∑ i, ((Real.exp (x i - x i₀) : ℝ) : EReal) * v (e i) :=
    (Fintype.sum_of_injective e he _ _ (fun j hj => by rw [hz j hj, zero_mul]) fun i => by rw [hp]).symm
  have h2 : ∑ j, Ideal.exp (s j - s (e i₀)) = ∑ i, ((Real.exp (x i - x i₀) : ℝ) : EReal) :=
    (Fintype.sum_of_injective e he _ _ (fun j hj => hz j hj) fun i => by rw [hp]).symm
  have hL : (0 : ℝ) < ∑ i, Real.exp (x i - x i₀) :=
    Finset.sum_pos (fun i _ => Real.exp_pos _) ⟨⟨0, hn⟩, Finset.mem_univ _⟩
  simp only [hp]
  rw [h1, h2, ← coe_sum, Ideal.div_coe hL.ne', mul_comm, mul_sum_coe _ _ (by positivity)]
  refine Finset.sum_congr rfl fun i _ => ?_
  rw [Ideal.div_coe hL.ne', ← mul_assoc, mul_comm (((1 / _ : ℝ) : EReal))]

end Cert.Softmax

end

end
-- ==== Proof.AttnRefIndex.lean ====
/- The neighbour lists of the reference: which token is the `n`-th of a token's window, and which entry of the relative bias it has. -/
module

public import proofs.«01_k».proof.Proof.Gen.AttnRefIdeal.Read
public import Idealize.ShloMosaic.Lib.Pointwise

@[expose] public section

set_option maxRecDepth 16384

noncomputable section

namespace Cert.AttnRefIdeal.Index

open Cert.AttnRefIdeal Cert.AttnRefIdeal.Gen Cert.AttnRefIdeal.Read Idealize.ShloMosaic

/-- The `n`-th token of the window of token `t`. -/
def nbr (t n : ℕ) : ℕ := (min (t / 64 - 4) 120 + n / 16) * 64 + (min (t % 64 - 8) 48 + n % 16)

/-- Its row in the relative bias. -/
def dr (t n : ℕ) : ℕ := min (t / 64 - 4) 120 + n / 16 + 7 - t / 64

/-- Its column in the relative bias. -/
def dc (t n : ℕ) : ℕ := min (t % 64 - 8) 48 + n % 16 + 15 - t % 64

theorem nbr_lt (t : Fin 8192) (n : Fin 128) : nbr t.val n.val < 8192 := by unfold nbr; omega

theorem dr_lt (t : Fin 8192) (n : Fin 128) : dr t.val n.val < 15 := by unfold dr; omega

theorem dc_lt (t : Fin 8192) (n : Fin 128) : dc t.val n.val < 31 := by unfold dc; omega

/-- The rows of the window of row `r`. -/
theorem rows_val : ∀ (r : Fin 128) (k : Fin 8), val_main_v31 (F := Ideal) (ix2 r k) = BitVec.ofNat 32 (min (r.val - 4) 120 + k.val) := by
  decide +kernel

/-- The columns of the window of column `c`. -/
theorem cols_val : ∀ (c : Fin 64) (k : Fin 16), val_main_v16 (F := Ideal) (ix2 c k) = BitVec.ofNat 32 (min (c.val - 8) 48 + k.val) := by
  decide +kernel

/-- The row offsets of the window of row `r`. -/
theorem rowOff_val : ∀ (r : Fin 128) (k : Fin 8), val_main_v36 (F := Ideal) (ix2 r k) = BitVec.ofNat 32 (min (r.val - 4) 120 + k.val + 7 - r.val) := by
  decide +kernel

/-- The column offsets of the window of column `c`. -/
theorem colOff_val : ∀ (c : Fin 64) (k : Fin 16), val_main_v21 (F := Ideal) (ix2 c k) = BitVec.ofNat 32 (min (c.val - 8) 48 + k.val + 15 - c.val) := by
  decide +kernel

/-- A natural number below `2 ^ 31` reads back from its word. -/
theorem toNat_ofNat (x : ℕ) (h : x < 2 ^ 31) : (BitVec.ofNat 32 x).toInt.toNat = x := by
  rw [BitVec.toInt_eq_toNat_of_lt (by rw [BitVec.toNat_ofNat, Nat.mod_eq_of_lt (by omega)]; omega), BitVec.toNat_ofNat, Nat.mod_eq_of_lt (by omega)]
  rfl

/-- A word that is not negative is left alone by the wrapping of negative indices. -/
theorem wrap (x : ℕ) (w : BitVec 32) (h : x < 2 ^ 31) :
    Scalar.select (IntOp.cmpi .slt (BitVec.ofNat 32 x) 0#32) (IntOp.addi (BitVec.ofNat 32 x) w) (BitVec.ofNat 32 x) = BitVec.ofNat 32 x := by
  have h0 : IntOp.cmpi .slt (BitVec.ofNat 32 x) 0#32 = 0#1 := by
    have : ¬ (BitVec.ofNat 32 x).toInt < 0 := by
      rw [BitVec.toInt_eq_toNat_of_lt (by rw [BitVec.toNat_ofNat, Nat.mod_eq_of_lt (by omega)]; omega)]
      omega
    simp [IntOp.cmpi, BitVec.slt, this]
  rw [h0]
  rfl

theorem word (a b : ℕ) : IntOp.addi (IntOp.muli (BitVec.ofNat 32 a) 64#32) (BitVec.ofNat 32 b) = BitVec.ofNat 32 (a * 64 + b) := by
  show BitVec.ofNat 32 a * BitVec.ofNat 32 64 + BitVec.ofNat 32 b = _
  rw [BitVec.ofNat_add, BitVec.ofNat_mul]

theorem nbr_word (t : Fin 8192) (n : Fin 128) : val_main_v44 (F := Ideal) (ix2 t n) = BitVec.ofNat 32 (nbr t.val n.val) := by
  pointwise [val_main_v44, val_main_v43, val_main_v42, val_main_v41, val_main_v40, val_main_v39, val_main_v38, val_main_v37, val_main_c_7]
  rw [rows_val, cols_val]
  exact word _ _

theorem dr_word (t : Fin 8192) (n : Fin 128) : val_main_v47 (F := Ideal) (ix2 t n) = BitVec.ofNat 32 (dr t.val n.val) := by
  pointwise [val_main_v47, val_main_v46, val_main_v45]
  exact rowOff_val _ _

theorem dc_word (t : Fin 8192) (n : Fin 128) : val_main_v50 (F := Ideal) (ix2 t n) = BitVec.ofNat 32 (dc t.val n.val) := by
  pointwise [val_main_v50, val_main_v49, val_main_v48]
  exact colOff_val _ _

theorem nbr_val (t : Fin 8192) (n : Fin 128) : val_main_v56 (F := Ideal) (ix3 t n 0) = BitVec.ofNat 32 (nbr t.val n.val) := by
  have h := nbr_word t n
  have := nbr_lt t n
  pointwise [val_main_v56, val_main_v55, val_main_v54, val_main_v53, val_main_v52, val_main_v51, val_main_c_8, val_main_c_9]
  rw [h]
  exact wrap _ _ (by omega)

theorem nbr_val' (t : Fin 8192) (n : Fin 128) : val_main_v63 (F := Ideal) (ix3 t n 0) = BitVec.ofNat 32 (nbr t.val n.val) := by
  have h := nbr_word t n
  have := nbr_lt t n
  pointwise [val_main_v63, val_main_v62, val_main_v61, val_main_v60, val_main_v59, val_main_v58, val_main_c_10, val_main_c_11]
  rw [h]
  exact wrap _ _ (by omega)

theorem dr_val (t : Fin 8192) (n : Fin 128) : val_main_v77 (F := Ideal) (ix3 t n 0) = BitVec.ofNat 32 (dr t.val n.val) := by
  have h := dr_word t n
  have := dr_lt t n
  pointwise [val_main_v77, val_main_v75, val_main_v69, val_main_v68, val_main_v67, val_main_v66, val_main_v65, val_main_c_12, val_main_c_13]
  rw [h]
  exact wrap _ _ (by omega)

theorem dc_val (t : Fin 8192) (n : Fin 128) : val_main_v77 (F := Ideal) (ix3 t n 1) = BitVec.ofNat 32 (dc t.val n.val) := by
  have h := dc_word t n
  have := dc_lt t n
  pointwise [val_main_v77, val_main_v76, val_main_v74, val_main_v73, val_main_v72, val_main_v71, val_main_v70, val_main_c_14, val_main_c_15]
  rw [h]
  exact wrap _ _ (by omega)

/-- Gathering tokens: the `n`-th row of token `t` is the row of the token its list names. -/
theorem gather_tok (x : FVec Ideal S8192x4x8x64 .f32) (w : IVec S8192x128x1 32) (t : Fin 8192) (n : Fin 128)
    (hw : w (ix3 t n 0) = BitVec.ofNat 32 (nbr t.val n.val)) (b : Fin 4) (h : Fin 8) (d : Fin 64) :
    Host.gather gather_S8192x4x8x64_S8192x128x1_S8192x128x4x8x64_234_0_n_n_0_2_14864 x w (ix5 t n b h d)
      = x (ix4 ⟨nbr t.val n.val, nbr_lt t n⟩ b h d) := by
  have hn := nbr_lt t n
  unfold Host.gather
  congr 1
  funext e
  refine Fin.ext ?_
  match e with
  | ⟨0, _⟩ =>
    have hs : gather_S8192x4x8x64_S8192x128x1_S8192x128x4x8x64_234_0_n_n_0_2_14864.start (ix5 t n b h d) w 0
        = min (w (ix3 t n 0)).toInt.toNat 8191 := by
      unfold GatherDims.start
      rw [dif_pos (by decide)]
      congr 4
      funext d; refine Fin.ext ?_
      match d with
      | ⟨0, _⟩ => rfl
      | ⟨1, _⟩ => rfl
      | ⟨2, _⟩ => rfl
    rw [hw, toNat_ofNat _ (by omega), Nat.min_eq_left (by omega)] at hs
    change gather_S8192x4x8x64_S8192x128x1_S8192x128x4x8x64_234_0_n_n_0_2_14864.start (ix5 t n b h d) w 0
      + gather_S8192x4x8x64_S8192x128x1_S8192x128x4x8x64_234_0_n_n_0_2_14864.batchCoord (ix5 t n b h d) 0
      + gather_S8192x4x8x64_S8192x128x1_S8192x128x4x8x64_234_0_n_n_0_2_14864.offCoord (ix5 t n b h d) 0 = _
    rw [hs, show gather_S8192x4x8x64_S8192x128x1_S8192x128x4x8x64_234_0_n_n_0_2_14864.batchCoord (ix5 t n b h d) 0 = 0 from rfl,
      show gather_S8192x4x8x64_S8192x128x1_S8192x128x4x8x64_234_0_n_n_0_2_14864.offCoord (ix5 t n b h d) 0 = 0 from rfl]
    rfl
  | ⟨1, _⟩ => exact (show 0 + 0 + b.val = b.val by omega)
  | ⟨2, _⟩ => exact (show 0 + 0 + h.val = h.val by omega)
  | ⟨3, _⟩ => exact (show 0 + 0 + d.val = d.val by omega)

/-- Gathering the bias at a pair of offsets. -/
theorem gather_bias (x : FVec Ideal S8x15x31 .f32) (h : Fin 8) (t : Fin 8192) (n : Fin 128) :
    Host.gather gather_S8x15x31_S8192x128x2_S8x8192x128_0_12_n_n_12_2_811 x (val_main_v77 (F := Ideal)) (ix3 h t n)
      = x (ix3 h ⟨dr t.val n.val, dr_lt t n⟩ ⟨dc t.val n.val, dc_lt t n⟩) := by
  have h1 := dr_lt t n
  have h2 := dc_lt t n
  unfold Host.gather
  congr 1
  funext e
  refine Fin.ext ?_
  match e with
  | ⟨0, _⟩ => exact (show 0 + 0 + h.val = h.val by omega)
  | ⟨1, _⟩ =>
    have hs : gather_S8x15x31_S8192x128x2_S8x8192x128_0_12_n_n_12_2_811.start (ix3 h t n) (val_main_v77 (F := Ideal)) 1
        = min (val_main_v77 (F := Ideal) (ix3 t n 0)).toInt.toNat 14 := by
      unfold GatherDims.start
      rw [dif_pos (by decide)]
      congr 4
      funext d; refine Fin.ext ?_
      match d with
      | ⟨0, _⟩ => rfl
      | ⟨1, _⟩ => rfl
      | ⟨2, _⟩ => rfl
    rw [dr_val, toNat_ofNat _ (by omega), Nat.min_eq_left (by omega)] at hs
    change gather_S8x15x31_S8192x128x2_S8x8192x128_0_12_n_n_12_2_811.start (ix3 h t n) (val_main_v77 (F := Ideal)) 1
      + gather_S8x15x31_S8192x128x2_S8x8192x128_0_12_n_n_12_2_811.batchCoord (ix3 h t n) 1 + gather_S8x15x31_S8192x128x2_S8x8192x128_0_12_n_n_12_2_811.offCoord (ix3 h t n) 1 = _
    rw [hs, show gather_S8x15x31_S8192x128x2_S8x8192x128_0_12_n_n_12_2_811.batchCoord (ix3 h t n) 1 = 0 from rfl, show gather_S8x15x31_S8192x128x2_S8x8192x128_0_12_n_n_12_2_811.offCoord (ix3 h t n) 1 = 0 from rfl]
    rfl
  | ⟨2, _⟩ =>
    have hs : gather_S8x15x31_S8192x128x2_S8x8192x128_0_12_n_n_12_2_811.start (ix3 h t n) (val_main_v77 (F := Ideal)) 2
        = min (val_main_v77 (F := Ideal) (ix3 t n 1)).toInt.toNat 30 := by
      unfold GatherDims.start
      rw [dif_pos (by decide)]
      congr 4
      funext d; refine Fin.ext ?_
      match d with
      | ⟨0, _⟩ => rfl
      | ⟨1, _⟩ => rfl
      | ⟨2, _⟩ => rfl
    rw [dc_val, toNat_ofNat _ (by omega), Nat.min_eq_left (by omega)] at hs
    change gather_S8x15x31_S8192x128x2_S8x8192x128_0_12_n_n_12_2_811.start (ix3 h t n) (val_main_v77 (F := Ideal)) 2
      + gather_S8x15x31_S8192x128x2_S8x8192x128_0_12_n_n_12_2_811.batchCoord (ix3 h t n) 2 + gather_S8x15x31_S8192x128x2_S8x8192x128_0_12_n_n_12_2_811.offCoord (ix3 h t n) 2 = _
    rw [hs, show gather_S8x15x31_S8192x128x2_S8x8192x128_0_12_n_n_12_2_811.batchCoord (ix3 h t n) 2 = 0 from rfl, show gather_S8x15x31_S8192x128x2_S8x8192x128_0_12_n_n_12_2_811.offCoord (ix3 h t n) 2 = 0 from rfl]
    rfl

end Cert.AttnRefIdeal.Index

end

end
-- ==== Proof.AttnRefMax.lean ====
/- The maximum over a token's window in the reference. -/
module

public import proofs.«01_k».proof.Proof.Gen.AttnRefIdeal.Read
public import Idealize.ShloMosaic.Lib.Pointwise

@[expose] public section

set_option maxRecDepth 16384

noncomputable section

namespace Cert.AttnRefIdeal.Value

open Cert.AttnRefIdeal Cert.AttnRefIdeal.Gen Idealize.ShloMosaic

/-- The maximum over the last axis is the fold of `max`. -/
theorem max_last (y : FVec Ideal S8192x4x8x128 .f32) (c : FVec Ideal S_ .f32) (t : Fin 8192) (b : Fin 4) (h : Fin 8) :
    Host.reduce FloatOps.maximumf y c reducesTo_S8192x4x8x128_S8192x4x8_d3 h_S_ (ix3 t b h)
      = Finset.univ.fold max (c (Shape.Idx.first h_S_)) fun n : Fin 128 => y (ix4 t b h n) := by
  simp only [pointwise]

end Cert.AttnRefIdeal.Value

end

end
-- ==== Proof.AttnRefValue.lean ====
/- The reference's attention, entry by entry. -/
module

public import proofs.«01_k».proof.Proof.AttnRefIndex
public import proofs.«01_k».proof.Proof.AttnRefMax

@[expose] public section

set_option maxRecDepth 16384

noncomputable section

namespace Cert.AttnRefIdeal.Value

open Cert.AttnRefIdeal Cert.AttnRefIdeal.Gen Cert.AttnRefIdeal.Read Cert.AttnRefIdeal.Index Idealize.ShloMosaic

variable (q k v : FVec Ideal S8192x2048 .bf16) (rpb : FVec Ideal S1x8x15x31 .f32)

/-- The score of the `n`-th token of token `t`'s window, at the head whose columns start at `64 * g`. -/
def scores (t : Fin 8192) (g : Fin 32) (n : Fin 128) : EReal :=
  (∑ d : Fin 64, q (ix2 t ⟨g.val * 64 + d.val, by omega⟩) * k (ix2 ⟨nbr t.val n.val, nbr_lt t n⟩ ⟨g.val * 64 + d.val, by omega⟩))
    + rpb (ix4 0 ⟨g.val % 8, by omega⟩ ⟨dr t.val n.val, dr_lt t n⟩ ⟨dc t.val n.val, dc_lt t n⟩)

theorem key_val (t : Fin 8192) (n : Fin 128) (b : Fin 4) (h : Fin 8) (d : Fin 64) :
    val_main_v57 (F := Ideal) k (ix5 t n b h d) = k (ix2 ⟨nbr t.val n.val, nbr_lt t n⟩ ⟨b.val * 512 + h.val * 64 + d.val, by omega⟩) := by
  refine (gather_tok (val_main_v4 (F := Ideal) k) _ t n (nbr_val t n) b h d).trans ?_
  pointwise [val_main_v4, val_main_v3]

theorem value_val (t : Fin 8192) (n : Fin 128) (b : Fin 4) (h : Fin 8) (d : Fin 64) :
    val_main_v64 (F := Ideal) v (ix5 t n b h d) = v (ix2 ⟨nbr t.val n.val, nbr_lt t n⟩ ⟨b.val * 512 + h.val * 64 + d.val, by omega⟩) := by
  refine (gather_tok (val_main_v6 (F := Ideal) v) _ t n (nbr_val' t n) b h d).trans ?_
  pointwise [val_main_v6, val_main_v5]

theorem bias_val (t : Fin 8192) (n : Fin 128) (h : Fin 8) :
    val_main_v78 (F := Ideal) rpb (ix3 h t n) = rpb (ix4 0 h ⟨dr t.val n.val, dr_lt t n⟩ ⟨dc t.val n.val, dc_lt t n⟩) := by
  refine (gather_bias (val_main_v0 (F := Ideal) rpb) h t n).trans ?_
  pointwise [val_main_v0]

theorem score_val (t : Fin 8192) (b : Fin 4) (h : Fin 8) (n : Fin 128) :
    val_main_v83 (F := Ideal) q k rpb (ix4 t b h n) = scores q k rpb t ⟨b.val * 8 + h.val, by omega⟩ n := by
  have hk := fun d => key_val k t n b h d
  have hb := bias_val rpb t n h
  generalize hK : val_main_v57 (F := Ideal) k = K at hk
  generalize hB : val_main_v78 (F := Ideal) rpb = B at hb
  pointwise [val_main_v83, val_main_v82, val_main_v81, val_main_v80, val_main_v79, val_main_v2, val_main_v1]
  rw [hK, hB, hb]
  simp only [hk, scores]
  congr 1
  · refine Finset.sum_congr rfl fun d _ => ?_
    congr 2 <;> funext a <;> fin_cases a <;> refine Fin.ext ?_
    · rfl
    · change b.val * 512 + h.val * 64 + d.val = (b.val * 8 + h.val) * 64 + d.val; omega
    · rfl
    · change b.val * 512 + h.val * 64 + d.val = (b.val * 8 + h.val) * 64 + d.val; omega
  · congr 1
    funext a; fin_cases a <;> refine Fin.ext ?_
    · rfl
    · change h.val = (b.val * 8 + h.val) % 8; omega
    · rfl
    · rfl

theorem neg_inf : Ideal.ofBits FTy.f32 0xFF800000#32 = ⊥ := by simp [Ideal.ofBits, Ideal.ieee]

theorem fold_val (t : Fin 8192) (b : Fin 4) (h : Fin 8) :
    val_main_v84 (F := Ideal) q k rpb (ix3 t b h) = Finset.univ.fold max ⊥ fun n : Fin 128 => scores q k rpb t ⟨b.val * 8 + h.val, by omega⟩ n := by
  have hs := fun n => score_val q k rpb t b h n
  have hc : val_main_cst (F := Ideal) (Shape.Idx.first h_S_) = (⊥ : EReal) := neg_inf
  unfold val_main_v84
  generalize val_main_v83 (F := Ideal) q k rpb = y at *
  generalize val_main_cst (F := Ideal) = z at *
  have hm := max_last y z t b h
  rw [hc] at hm
  exact hm.trans (congrArg (fun f => Finset.univ.fold max ⊥ f) (funext hs))

theorem maximumf_val (z y : FVec Ideal S8192x4x8 .f32) (i : S8192x4x8.Idx) : maximumf z y i = max (z i) (y i) := rfl

theorem max_val (t : Fin 8192) (b : Fin 4) (h : Fin 8) :
    val_main_v86 (F := Ideal) q k rpb (ix3 t b h) = Finset.univ.fold max ⊥ fun n : Fin 128 => scores q k rpb t ⟨b.val * 8 + h.val, by omega⟩ n := by
  have hf := fold_val q k rpb t b h
  have hc : val_main_v85 (F := Ideal) (ix3 t b h) = (⊥ : EReal) := by
    pointwise [val_main_v85, val_main_cst_16]
    exact neg_inf
  unfold val_main_v86
  generalize val_main_v84 (F := Ideal) q k rpb = y at *
  generalize val_main_v85 (F := Ideal) = z at *
  refine (maximumf_val z y (ix3 t b h)).trans ?_
  rw [hc, hf]
  exact max_eq_right bot_le

/-- The reference's result: every window's softmax average of the values. -/
def REF : FVec Ideal S8192x2048 .bf16 := fun i =>
  let s := scores q k rpb ⟨(i 0).val, (i 0).isLt⟩ ⟨(i 1).val / 64, by have : (i 1).val < 2048 := (i 1).isLt; omega⟩
  ∑ n : Fin 128, Ideal.div (Ideal.exp (s n - Finset.univ.fold max ⊥ s)) (∑ n : Fin 128, Ideal.exp (s n - Finset.univ.fold max ⊥ s))
    * v (ix2 ⟨nbr (i 0).val n.val, nbr_lt ⟨(i 0).val, (i 0).isLt⟩ n⟩ ⟨(i 1).val, (i 1).isLt⟩)

theorem ref_val (t : Fin 8192) (c : Fin 2048) : val_main_v97 (F := Ideal) q k v rpb (ix2 t c) = REF q k v rpb (ix2 t c) := by
  have hs := fun b h n => score_val q k rpb t b h n
  have hm := fun b h => max_val q k rpb t b h
  have hv := fun b h d n => value_val v t n b h d
  generalize hS : val_main_v83 (F := Ideal) q k rpb = S at hs
  generalize hM : val_main_v86 (F := Ideal) q k rpb = M at hm
  generalize hV : val_main_v64 (F := Ideal) v = W at hv
  pointwise [val_main_v97, val_main_v96, val_main_v95, val_main_v94, val_main_v93, val_main_v92, val_main_v91, val_main_v90, val_main_v89, val_main_v88, val_main_v87, val_main_cst_17]
  simp only [hS, hM, hV, hs, hm, hv]
  have e1 : ∀ h1, (⟨c.val / 512 * 8 + c.val / 64 % 8, h1⟩ : Fin 32) = ⟨c.val / 64, by omega⟩ := fun _ => Fin.ext (by simp only []; omega)
  have e2 : ∀ h2, (⟨c.val / 512 * 512 + c.val / 64 % 8 * 64 + c.val % 64, h2⟩ : Fin 2048) = c := fun _ => Fin.ext (by simp only []; omega)
  simp only [e1, e2]
  rfl

end Cert.AttnRefIdeal.Value

end

end
-- ==== Proof.AttnJoin.lean ====
/- The kernel's masked softmax over eight whole rows is the reference's softmax over the window. -/
module

public import proofs.«01_k».proof.Proof.Softmax
public import proofs.«01_k».proof.Proof.AttnPiece
public import proofs.«01_k».proof.Proof.AttnTable
public import proofs.«01_k».proof.Proof.AttnRefValue
public import proofs.«01_k».proof.Pre_attn_finite

@[expose] public section

set_option maxRecDepth 16384

noncomputable section

namespace Cert.AttnJoin

open Cert.AttnIdeal Idealize.ShloMosaic
open Cert.AttnIdeal.Block (rs rs_le)
open Cert.AttnRefIdeal.Index (nbr dr dc nbr_lt dr_lt dc_lt)

/-- The place among the 512 keys of the `n`-th token of the window of a token in column `c`. -/
def place (c : Fin 64) (n : Fin 128) : Fin 512 := ⟨64 * (n.val / 16) + (min (c.val - 8) 48 + n.val % 16), by omega⟩

theorem place_inj (c : Fin 64) : Function.Injective (place c) := fun a b h => by
  have h := congrArg Fin.val h
  simp only [place] at h
  exact Fin.ext (by omega)

/-- A key whose column is in the window is the place of one of its tokens. -/
theorem place_onto (c : Fin 64) (j : Fin 512) (h : min (c.val - 8) 48 ≤ j.val % 64 ∧ j.val % 64 < min (c.val - 8) 48 + 16) :
    ∃ n, place c n = j :=
  ⟨⟨16 * (j.val / 64) + (j.val % 64 - min (c.val - 8) 48), by omega⟩, Fin.ext (by simp only [place]; omega)⟩

variable (q k v : FVec Ideal S8192x2048 .bf16) (rpb : FVec Ideal S1x8x15x31 .f32)

/-- A sum of products of real entries is real. -/
theorem real_sum {n : ℕ} (f g : Fin n → EReal) (hf : ∀ i, ∃ x : ℝ, f i = x) (hg : ∀ i, ∃ x : ℝ, g i = x) (b : EReal)
    (hb : ∃ x : ℝ, b = x) : ∃ x : ℝ, (∑ i, f i * g i) + b = x := by
  choose f' hf using hf
  choose g' hg using hg
  obtain ⟨b', rfl⟩ := hb
  refine ⟨(∑ i, f' i * g' i) + b', ?_⟩
  simp only [hf, hg]
  rw [EReal.coe_add, Cert.Softmax.coe_sum]
  simp only [EReal.coe_mul]

/-- A score of the kernel at the place of a window's token is the reference's score. -/
theorem score_in (t : Fin 8192) (g : Fin 32) (n : Fin 128) :
    Block.scores q k (Table.table rpb) t g (place ⟨t.val % 64, by omega⟩ n) = Cert.AttnRefIdeal.Value.scores q k rpb t g n := by
  have hc : (64 * (n.val / 16) + (min (t.val % 64 - 8) 48 + n.val % 16)) % 64 = min (t.val % 64 - 8) 48 + n.val % 16 := by omega
  have hd : (64 * (n.val / 16) + (min (t.val % 64 - 8) 48 + n.val % 16)) / 64 = n.val / 16 := by omega
  unfold Block.scores Cert.AttnRefIdeal.Value.scores
  rw [Table.table_val, if_pos (by simp only [place]; omega)]
  congr 1
  · refine Finset.sum_congr rfl fun d _ => ?_
    congr 2
    funext a; fin_cases a <;> refine Fin.ext ?_
    · change rs (t.val / 64) * 64 + (64 * (n.val / 16) + (min (t.val % 64 - 8) 48 + n.val % 16)) = nbr t.val n.val
      unfold nbr rs; omega
    · rfl
  · congr 1
    funext a; fin_cases a <;> refine Fin.ext ?_
    · rfl
    · rfl
    · change min ((64 * (n.val / 16) + (min (t.val % 64 - 8) 48 + n.val % 16)) / 64 + 7 - (t.val / 64 - rs (t.val / 64))) 14 = dr t.val n.val
      rw [hd]; unfold dr rs; omega
    · change min ((64 * (n.val / 16) + (min (t.val % 64 - 8) 48 + n.val % 16)) % 64 + 15 - t.val % 64) 30 = dc t.val n.val
      rw [hc]; unfold dc; omega

/-- Elsewhere the kernel's score is `-∞`. -/
theorem score_out (t : Fin 8192) (g : Fin 32) (j : Fin 512) (h : ∀ n, place ⟨t.val % 64, by omega⟩ n ≠ j) :
    Block.scores q k (Table.table rpb) t g j = ⊥ := by
  unfold Block.scores
  rw [Table.table_val, if_neg fun hj => by obtain ⟨n, hn⟩ := place_onto ⟨t.val % 64, by omega⟩ j hj; exact h n hn]
  exact EReal.add_bot _

/-- The kernel's array is the reference's when queries, keys and biases are real. -/
theorem join (hq : ∀ i, ∃ x : ℝ, q i = x) (hk : ∀ i, ∃ x : ℝ, k i = x) (hb : ∀ i, ∃ x : ℝ, rpb i = x) :
    Block.OUT q k v (Table.table rpb) = Cert.AttnRefIdeal.Value.REF q k v rpb := by
  funext i
  obtain ⟨t, c, rfl⟩ : ∃ (t : Fin 8192) (c : Fin 2048), i = ix2 t c := ⟨i 0, i 1, by funext a; fin_cases a <;> rfl⟩
  have hi := fun n => score_in q k rpb t ⟨c.val / 64, by omega⟩ n
  have hm := Cert.Softmax.masked (N := 512) (n := 128) (by omega) (Block.scores q k (Table.table rpb) t ⟨c.val / 64, by omega⟩)
    (fun j => v (ix2 ⟨rs (t.val / 64) * 64 + j.val, by have := rs_le (t.val / 64); omega⟩ c)) (place ⟨t.val % 64, by omega⟩) (place_inj _)
    (score_out q k rpb t _) (fun n => by rw [hi]; exact real_sum _ _ (fun _ => hq _) (fun _ => hk _) _ (hb _))
  refine Eq.trans ?_ (hm.trans ?_)
  · rfl
  · simp only [hi]
    change _ = ∑ n : Fin 128, _
    refine Finset.sum_congr rfl fun n _ => ?_
    congr 2
    funext a; fin_cases a <;> refine Fin.ext ?_
    · change rs (t.val / 64) * 64 + (64 * (n.val / 16) + (min (t.val % 64 - 8) 48 + n.val % 16)) = nbr t.val n.val
      unfold nbr rs; omega
    · rfl

/-- An entry whose magnitude is below `+∞` is real. -/
theorem real_of_lt (x : EReal) (h : FloatOps.cmpf (F := Ideal) (φ := .f32) .olt (FloatOps.absf (F := Ideal) (φ := .f32) x) (Ideal.ofBits .f32 0x7F800000#32) = 1#1) :
    ∃ r : ℝ, x = r := by
  have ht : Ideal.ofBits FTy.f32 0x7F800000#32 = ⊤ := by simp [Ideal.ofBits, Ideal.ieee]
  rw [ht] at h
  replace h : Ideal.cmp .olt (max x (-x)) ⊤ = 1#1 := h
  induction x with
  | bot => simp [Ideal.cmp] at h
  | top => simp [Ideal.cmp] at h
  | coe r => exact ⟨r, rfl⟩

/-- The shape relations that the precondition's operations take. -/
theorem preFacts : Cert.Pre_attn_finite.Facts where
  bitsLt_bf16_f32 := by decide
  bcast_S_S8192x2048 := by decide
  bcast_S_S1x8x15x31 := by decide

end Cert.AttnJoin

end

end
-- ==== Proof.AttnClaim.lean ====
/-
  The value claim of the attention: with real queries, keys and biases, the array the kernel leaves is the reference's.
-/
module

public import proofs.«01_k».proof.Defs
public import proofs.«01_k».proof.Proof.AttnBlock
public import proofs.«01_k».proof.Proof.AttnTable
public import proofs.«01_k».proof.Proof.AttnJoin
public import proofs.«01_k».proof.Proof.AttnRefValue
public import proofs.«01_k».proof.Proof.Gen.AttnIdeal.Value
public import proofs.«01_k».proof.Proof.Gen.AttnRefIdeal.Run
public import proofs.«01_k».proof.Proof.Gen.AttnRefIdeal.Read

@[expose] public section

noncomputable section

namespace Cert.AttnClaim

open Idealize.ShloMosaic Idealize.SL.Sem

/-- The reference's array is the plain formula. -/
theorem ref_eq (q k v : FVec Ideal Cert.AttnIdeal.S8192x2048 .bf16) (rpb : FVec Ideal Cert.AttnIdeal.S1x8x15x31 .f32) :
    Cert.AttnRefIdeal.Read.val_main_v97 (F := Ideal) q k v rpb = Cert.AttnRefIdeal.Value.REF q k v rpb := by
  funext i
  obtain ⟨t, c, rfl⟩ : ∃ (t : Fin 8192) (c : Fin 2048), i = ix2 t c := ⟨i 0, i 1, by funext a; fin_cases a <;> rfl⟩
  exact Cert.AttnRefIdeal.Value.ref_val q k v rpb t c

/-- The reference ends with its arguments unchanged and every counter at zero. -/
theorem ref_frame : Cert.quiescent_AttnRefIdeal (hAttnRefIdeal := Cert.AttnRefIdeal.Gen.facts) := fun m g _ =>
  (θ_run Cert.AttnRefIdeal.defs _ _).mono (fun r h => ⟨fun c => (h c).2, sem_eq_zero_of_no_sems (by decide) r.2⟩)
    (Cert.AttnRefIdeal.Value.run (F := Ideal) m g)

/-- The kernel and the reference, run from the same arguments, leave the same array. -/
theorem algebraic : Cert.algebraic_AttnIdeal_AttnRefIdeal_pre_attn_finite (hAttnIdeal := Cert.AttnIdeal.Gen.facts)
    (hAttnRefIdeal := Cert.AttnRefIdeal.Gen.facts) (hPre_attn_finite := Cert.AttnJoin.preFacts) := by
  intro m g m' g' hp ha
  refine ⟨fun c => Cert.AttnRefIdeal.Value.REF (m ((c.tc : Thread Cert.AttnIdeal.nD Cert.AttnIdeal.τ).loc Cert.AttnIdeal.main_arg0))
      (m ((c.tc : Thread Cert.AttnIdeal.nD Cert.AttnIdeal.τ).loc Cert.AttnIdeal.main_arg1))
      (m ((c.tc : Thread Cert.AttnIdeal.nD Cert.AttnIdeal.τ).loc Cert.AttnIdeal.main_arg2))
      (m ((c.tc : Thread Cert.AttnIdeal.nD Cert.AttnIdeal.τ).loc Cert.AttnIdeal.main_arg3)), ?_, ?_⟩
  · refine (θ_run _ _ _).mono (fun r h c => ⟨?_, (h c).2⟩) (Cert.AttnIdeal.Value.run_blocks m g)
    obtain ⟨h0, h1, h2⟩ := hp c
    rw [(h c).1, show Cert.AttnIdeal.cfg0.N = (Cert.AttnIdeal.cfgs 0).N from rfl, Cert.AttnIdeal.Block.final m c,
      Cert.AttnIdeal.Table.entry m c]
    exact Cert.AttnJoin.join _ _ _ _ (fun i => Cert.AttnJoin.real_of_lt _ (congrFun h0 i))
      (fun i => Cert.AttnJoin.real_of_lt _ (congrFun h1 i)) (fun i => Cert.AttnJoin.real_of_lt _ (congrFun h2 i))
  · refine (θ_run _ _ _).mono (fun r h c => ⟨?_, (h c).2⟩) (Cert.AttnRefIdeal.Value.run m' g')
    rw [(h c).1, Cert.AttnRefIdeal.Read.val_main_v97_eq, (ha c).1, (ha c).2.1, (ha c).2.2.1, (ha c).2.2.2]
    exact ref_eq _ _ _ _

end Cert.AttnClaim

end
-- ==== Proof.Dense.lean ====
/- The row-wise formulas that the dense calls share: the root-mean-square norm of a row, and the logistic function. -/
module

public import Idealize.ShloMosaic.Lib.Pointwise

@[expose] public section

noncomputable section

namespace Cert.Dense

open Idealize.ShloMosaic

/-- A row of 1024 entries over its root mean square, times a gain: the eps and the 1024 are the programs' own words. -/
def nrm (x g : Fin 1024 → EReal) (k : Fin 1024) : EReal :=
  x k * Ideal.rsqrt (Ideal.div (∑ l, x l * x l) (Ideal.ofBits FTy.f32 1149239296#32) + Ideal.ofBits FTy.f32 897988541#32) * g k

/-- The logistic function. -/
def logi (x : EReal) : EReal := Ideal.div 1 (1 + Ideal.exp (-x))

end Cert.Dense

end

end
-- ==== Proof.FfnBlock.lean ====
/- The array the feed-forward kernel leaves. -/
module

public import proofs.«01_k».proof.Proof.Gen.FfnIdeal.Value
public import proofs.«01_k».proof.Proof.Dense
public import Idealize.ShloMosaic.Lib.Pipeline.ValueKit

@[expose] public section

set_option maxRecDepth 16384

noncomputable section

namespace Cert.FfnIdeal.Block

open Cert.FfnIdeal Cert.FfnIdeal.Gen Idealize.ShloMosaic Idealize.ShloMosaic.TcCoe Idealize.SL.Sem Cert.Dense
open Idealize.ShloMosaic.Pipeline (Dat)

section formula
variable (X : FVec Ideal S4x8192x1024 .f32) (G : FVec Ideal S1x1024 .f32) (WG WU : FVec Ideal S1x1024x2816 .f32)
  (WD : FVec Ideal S1x2816x1024 .f32)

/-- The gated unit `f` of batch `b`'s token `t`: the gate times its logistic, times the up-projection. -/
def unitAt (b : Fin 4) (t : Fin 8192) (f : Fin 2816) : EReal :=
  (∑ k, nrm (fun l => X (ix3 b t l)) (fun l => G (ix2 0 l)) k * WG (ix3 0 k f))
    * logi (∑ k, nrm (fun l => X (ix3 b t l)) (fun l => G (ix2 0 l)) k * WG (ix3 0 k f))
    * ∑ k, nrm (fun l => X (ix3 b t l)) (fun l => G (ix2 0 l)) k * WU (ix3 0 k f)

/-- Entry `j` of the result for batch `b`'s token `t`. -/
def at_ (b : Fin 4) (t : Fin 8192) (j : Fin 1024) : EReal :=
  X (ix3 b t j) + Ideal.ofBits FTy.f32 1056964608#32 * ∑ f, unitAt X G WG WU b t f * WD (ix3 0 f j)

/-- The token-major result: column `j` of batch `b` is column `1024 b + j`. -/
def OUT : FVec Ideal S8192x4096 .f32 := fun i =>
  at_ X G WG WU WD ⟨(i 1).val / 1024, by have : (i 1).val < 4096 := (i 1).isLt; omega⟩ ⟨(i 0).val, (i 0).isLt⟩
    ⟨(i 1).val % 1024, by omega⟩

end formula

variable (m : (ℓ : Loc nD τ sig) → Buf (Elt Ideal) ℓ)

/-- The block index of every window at grid point `t`. -/
theorem idx_val : ∀ t : Fin cfg0.N, win0_0.index t = ![t.val / 16, t.val % 16, 0] ∧ win0_1.index t = ![0, 0]
    ∧ win0_2.index t = ![0, 0] ∧ win0_3.index t = ![0, 0] ∧ win0_4.index t = ![0, 0]
    ∧ win0_5.index t = ![t.val % 16, t.val / 16] ∧ t.val / 16 < 4 :=
  (by decide +kernel : ∀ t : Fin grid0.N, win0_0.index t = ![t.val / 16, t.val % 16, 0] ∧ win0_1.index t = ![0, 0]
    ∧ win0_2.index t = ![0, 0] ∧ win0_3.index t = ![0, 0] ∧ win0_4.index t = ![0, 0]
    ∧ win0_5.index t = ![t.val % 16, t.val / 16] ∧ t.val / 16 < 4)

/-- What grid point `t` leaves at entry `y` of its output block. -/
theorem point (c : Dev nD) (t : Fin cfg0.N) (y : S512x1024.Idx) :
    out0_5 (iblk m c 0 t) (iblk m c 1 t) (iblk m c 2 t) (iblk m c 3 t) (iblk m c 4 t) y
    = OUT (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  obtain ⟨a, j, rfl⟩ : ∃ (a : Fin 512) (j : Fin 1024), y = ix2 a j := ⟨y 0, y 1, by funext e; fin_cases e <;> rfl⟩
  obtain ⟨b, hb⟩ : ∃ b : Fin 4, b.val = t.val / 16 := ⟨⟨t.val / 16, (idx_val t).2.2.2.2.2.2⟩, rfl⟩
  obtain ⟨r, hr⟩ : ∃ r : Fin 8192, r.val = t.val % 16 * 512 + a.val := ⟨⟨t.val % 16 * 512 + a.val, by omega⟩, rfl⟩
  have he : ((cfg0.win 5).blk t).view.emb (ix2 a j) = ix2 r (⟨b.val * 1024 + j.val, by omega⟩ : Fin 4096) := by
    blk_ext [idx_val t]
  have ho : OUT (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb (ix2 a j))
      = at_ (m ((c : Thread nD τ).loc main_arg0)) (m ((c : Thread nD τ).loc main_arg1)) (m ((c : Thread nD τ).loc main_arg2))
        (m ((c : Thread nD τ).loc main_arg3)) (m ((c : Thread nD τ).loc main_arg4)) b r j := by
    rw [he]
    unfold OUT
    congr 1
    · exact Fin.ext (show (b.val * 1024 + j.val) / 1024 = b.val by omega)
    · exact Fin.ext (show (b.val * 1024 + j.val) % 1024 = j.val by omega)
  rw [ho]
  unfold at_
  rw [Fin.sum_univ_two_halves 1536 1280 rfl]
  frame_out
  pointwise [k0_pay1, k0_pay2, k0_pay3, k0_pay4]
  simp only [zero_sub, unitAt, nrm, logi]
  blk_point [iblk, V, idx_val t]

/-- The array after the run. -/
theorem final (c : Dev nD) : (dats m 0 c).arrAt 5 (cfgs 0).N
    = OUT (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Cert.FfnIdeal.Block

end

end
-- ==== Proof.FfnClaim.lean ====
/- The value claim of the feed-forward block: the array the kernel leaves is the reference's. -/
module

public import proofs.«01_k».proof.Defs
public import proofs.«01_k».proof.Proof.FfnBlock
public import proofs.«01_k».proof.Proof.Gen.FfnRefIdeal.Run
public import proofs.«01_k».proof.Proof.Gen.FfnRefIdeal.Read

@[expose] public section

set_option maxRecDepth 16384

noncomputable section

namespace Cert.FfnClaim

open Idealize.ShloMosaic Idealize.SL.Sem Cert.FfnRefIdeal.Read Cert.Dense
open Cert.FfnIdeal.Block (OUT at_ unitAt)

variable (X : FVec Ideal Cert.FfnRefIdeal.S4x8192x1024 .f32) (G : FVec Ideal Cert.FfnRefIdeal.S1x1024 .f32)
  (WG WU : FVec Ideal Cert.FfnRefIdeal.S1x1024x2816 .f32) (WD : FVec Ideal Cert.FfnRefIdeal.S1x2816x1024 .f32)

/-- The reference's normed rows. -/
theorem norm_val (b : Fin 4) (t : Fin 8192) (j : Fin 1024) :
    val_main_v13 (F := Ideal) X G (ix3 b t j) = nrm (fun l => X (ix3 b t l)) (fun l => G (ix2 0 l)) j := by
  unfold nrm
  pointwise [val_main_v0, val_main_v1, val_main_cst, val_main_v2, val_main_v3, val_main_v4, val_main_cst_0, val_main_v5, val_main_v6,
    val_main_cst_1, val_main_v7, val_main_v8, val_main_v9, val_main_v10, val_main_v11, val_main_v12, val_main_v13]

/-- The reference's array is the formula. -/
theorem ref_eq : val_main_v26 (F := Ideal) X G WG WU WD = OUT X G WG WU WD := by
  funext i
  obtain ⟨t, c, rfl⟩ : ∃ (t : Fin 8192) (c : Fin 4096), i = ix2 t c := ⟨i 0, i 1, by funext a; fin_cases a <;> rfl⟩
  have hn := fun b t j => norm_val X G b t j
  generalize hN : val_main_v13 (F := Ideal) X G = N at hn
  pointwise [val_main_v26, val_main_v25, val_main_v24, val_main_v23, val_main_v22, val_main_v21, val_main_cst_2, val_main_v20,
    val_main_v19, val_main_v18, val_main_call0_v5, val_main_call0_v4, val_main_call0_v3, val_main_call0_v2, val_main_call0_v1,
    val_main_call0_v0, val_main_call0_cst, val_main_call0_cst_0, val_main_v17, val_main_v16, val_main_v15, val_main_v14]
  simp only [hN, hn]
  rfl

/-- The reference ends with its arguments unchanged and every counter at zero. -/
theorem ref_frame : Cert.quiescent_FfnRefIdeal (hFfnRefIdeal := Cert.FfnRefIdeal.Gen.facts) := fun m g _ =>
  (θ_run Cert.FfnRefIdeal.defs _ _).mono (fun r h => ⟨fun c => (h c).2, sem_eq_zero_of_no_sems (by decide) r.2⟩)
    (Cert.FfnRefIdeal.Value.run (F := Ideal) m g)

/-- The kernel and the reference, run from the same arguments, leave the same array. -/
theorem algebraic : Cert.algebraic_FfnIdeal_FfnRefIdeal (hFfnIdeal := Cert.FfnIdeal.Gen.facts)
    (hFfnRefIdeal := Cert.FfnRefIdeal.Gen.facts) := by
  intro m g m' g' hp ha
  refine ⟨fun c => OUT (m ((c.tc : Thread Cert.FfnIdeal.nD Cert.FfnIdeal.τ).loc Cert.FfnIdeal.main_arg0))
      (m ((c.tc : Thread Cert.FfnIdeal.nD Cert.FfnIdeal.τ).loc Cert.FfnIdeal.main_arg1))
      (m ((c.tc : Thread Cert.FfnIdeal.nD Cert.FfnIdeal.τ).loc Cert.FfnIdeal.main_arg2))
      (m ((c.tc : Thread Cert.FfnIdeal.nD Cert.FfnIdeal.τ).loc Cert.FfnIdeal.main_arg3))
      (m ((c.tc : Thread Cert.FfnIdeal.nD Cert.FfnIdeal.τ).loc Cert.FfnIdeal.main_arg4)), ?_, ?_⟩
  · refine (θ_run _ _ _).mono (fun r h c => ⟨?_, (h c).2⟩) (Cert.FfnIdeal.Value.run_blocks m g)
    rw [(h c).1, show Cert.FfnIdeal.cfg0.N = (Cert.FfnIdeal.cfgs 0).N from rfl, Cert.FfnIdeal.Block.final m c]
  · refine (θ_run _ _ _).mono (fun r h c => ⟨?_, (h c).2⟩) (Cert.FfnRefIdeal.Value.run m' g')
    obtain ⟨h0, h1, h2, h3, h4⟩ := ha c
    rw [(h c).1, val_main_v26_eq, h0, h1, h2, h3, h4]
    exact ref_eq _ _ _ _ _

end Cert.FfnClaim

end
-- ==== Proof.Slab.lean ====
/- The order in which the scan's slabs hold the channels of the state-space branch. -/
module

public import Idealize.ShloMosaic.Lib.Pointwise

@[expose] public section

namespace Cert.Slab

/-- The channel at position `z` of the four slabs laid side by side: slab `z / 128` has 64 channels of either half. -/
def chanN (z : ℕ) : ℕ := 256 * (z % 128 / 64) + 64 * (z / 128) + z % 64

theorem chanN_lt (z : Fin 512) : chanN z.val < 512 := by unfold chanN; omega

/-- The same as an index. -/
def chan (z : Fin 512) : Fin 512 := ⟨chanN z.val, chanN_lt z⟩

/-- The position of channel `c`. -/
def pos (c : Fin 512) : Fin 512 := ⟨128 * (c.val % 256 / 64) + 64 * (c.val / 256) + c.val % 64, by omega⟩

/-- Positions and channels correspond one to one. -/
def equiv : Fin 512 ≃ Fin 512 where
  toFun := chan
  invFun := pos
  left_inv z := Fin.ext (by show 128 * (chanN z.val % 256 / 64) + 64 * (chanN z.val / 256) + chanN z.val % 64 = z.val; unfold chanN; omega)
  right_inv c := Fin.ext (by
    show chanN (128 * (c.val % 256 / 64) + 64 * (c.val / 256) + c.val % 64) = c.val
    unfold chanN; omega)

/-- A natural number below `2 ^ 31` reads back from its word. -/
theorem toNat_ofNat (x : ℕ) (h : x < 2 ^ 31) : (BitVec.ofNat 32 x).toInt.toNat = x := by
  rw [BitVec.toInt_eq_toNat_of_lt (by rw [BitVec.toNat_ofNat, Nat.mod_eq_of_lt (by omega)]; omega), BitVec.toNat_ofNat, Nat.mod_eq_of_lt (by omega)]
  rfl

end Cert.Slab

end
-- ==== Proof.InprojWeight.lean ====
/- The weights the projection call is given: the columns of the state-space input, in slab order. -/
module

public import proofs.«01_k».proof.Proof.Gen.InprojIdeal.Value
public import proofs.«01_k».proof.Proof.Slab
public import Idealize.ShloMosaic.Lib.Pipeline.ValueKit
public import Idealize.ShloMosaic.Lib.StableHlo.RunRead

@[expose] public section

set_option maxRecDepth 16384

noncomputable section

namespace Cert.InprojIdeal.Weight

open Cert.InprojIdeal Cert.InprojIdeal.Gen Idealize.ShloMosaic Idealize.ShloMosaic.TcCoe Idealize.SL.Sem Cert.Slab

/-- Gathering columns by the channel list. -/
theorem gather_cols (x : FVec Ideal S1024x512 .f32) (w : IVec S512x1 32) (k : Fin 1024) (z : Fin 512)
    (hw : w (ix2 z 0) = BitVec.ofNat 32 (chanN z.val)) :
    Host.gather gather_S1024x512_S512x1_S1024x512_0_1_n_n_1_1_10241 x w (ix2 k z) = x (ix2 k (chan z)) := by
  have hn := chanN_lt z
  unfold Host.gather
  congr 1
  funext e
  refine Fin.ext ?_
  match e with
  | ⟨0, _⟩ => exact (show 0 + 0 + k.val = k.val by omega)
  | ⟨1, _⟩ =>
    have hs : gather_S1024x512_S512x1_S1024x512_0_1_n_n_1_1_10241.start (ix2 k z) w 1 = min (w (ix2 z 0)).toInt.toNat 511 := by
      unfold GatherDims.start
      rw [dif_pos (by decide)]
      congr 4
      funext d; refine Fin.ext ?_
      match d with
      | ⟨0, _⟩ => rfl
      | ⟨1, _⟩ => rfl
    rw [hw, toNat_ofNat _ (by omega), Nat.min_eq_left (by omega)] at hs
    change gather_S1024x512_S512x1_S1024x512_0_1_n_n_1_1_10241.start (ix2 k z) w 1
      + gather_S1024x512_S512x1_S1024x512_0_1_n_n_1_1_10241.batchCoord (ix2 k z) 1
      + gather_S1024x512_S512x1_S1024x512_0_1_n_n_1_1_10241.offCoord (ix2 k z) 1 = _
    rw [hs, show gather_S1024x512_S512x1_S1024x512_0_1_n_n_1_1_10241.batchCoord (ix2 k z) 1 = 0 from rfl,
      show gather_S1024x512_S512x1_S1024x512_0_1_n_n_1_1_10241.offCoord (ix2 k z) 1 = 0 from rfl]
    rfl

variable (m : (ℓ : Loc nD τ sig) → Buf (Elt Ideal) ℓ)

section pure
variable (x1 : FVec Ideal S1024x1536 .f32) (x2 : FVec Ideal S1024x512 .f32) (x3 : FVec Ideal S1024x2048 .f32)

/-- The three pieces side by side. -/
def side : FVec Ideal S1024x4096 .bf16 :=
  (truncf .bf16 · bitsLt_bf16_f32) (concatenate S1024x4096 1 [⟨S1024x1536, x1⟩, ⟨S1024x512, x2⟩, ⟨S1024x2048, x3⟩]
    concatenates_S1024x1536_S1024x512_S1024x2048_S1024x4096_d1)

theorem side_low (k : Fin 1024) (z : Fin 4096) (j : Fin 1536) (hz : z.val = j.val) : side x1 x2 x3 (ix2 k z) = x1 (ix2 k j) := by
  pointwise [side]
  rw [dif_pos (by omega)]
  congr 2
  exact Fin.ext hz

theorem side_mid (k : Fin 1024) (z : Fin 4096) (j : Fin 512) (hz : z.val = 1536 + j.val) : side x1 x2 x3 (ix2 k z) = x2 (ix2 k j) := by
  pointwise [side]
  rw [dif_neg (by omega), dif_pos (by omega)]
  congr 2
  exact Fin.ext (by dsimp only; omega)

theorem side_high (k : Fin 1024) (z : Fin 4096) (j : Fin 2048) (hz : z.val = 2048 + j.val) : side x1 x2 x3 (ix2 k z) = x3 (ix2 k j) := by
  pointwise [side]
  rw [dif_neg (by omega), dif_neg (by omega)]
  congr 2
  exact Fin.ext (by dsimp only; omega)

end pure

/-- The channel list, as the host computes it. -/
def list : IVec S512 32 :=
  shapeCast S512 (addi
    (broadcastInDim S4x2x64 ![0, 1, 2] bcast_S4x2x1_S4x2x64_0_1_2 (addi
      (broadcastInDim S4x2x1 ![0, 1, 2] bcast_S1x2x1_S4x2x1_0_1_2 (muli
        (broadcastInDim S1x2x1 ![] bcast_S_S1x2x1 (constantI S_ 32 256#32)) (broadcastInDim S1x2x1 ![1] bcast_S2_S1x2x1_1 (iotaInDim S2 32 0))))
      (broadcastInDim S4x2x1 ![0, 1, 2] bcast_S4x1x1_S4x2x1_0_1_2 (muli
        (broadcastInDim S4x1x1 ![] bcast_S_S4x1x1 (constantI S_ 32 64#32)) (broadcastInDim S4x1x1 ![0] bcast_S4_S4x1x1_0 (iotaInDim S4 32 0))))))
    (broadcastInDim S4x2x64 ![0, 1, 2] bcast_S1x1x64_S4x2x64_0_1_2 (broadcastInDim S1x1x64 ![2] bcast_S64_S1x1x64_2 (iotaInDim S64 32 0))))
    shapeCasts_S4x2x64_S512

/-- The same as a column of start indices. -/
def starts : IVec S512x1 32 :=
  broadcastInDim S512x1 ![0] bcast_S512_S512x1_0
    (select (cmpi .slt list (broadcastInDim S512 ![] bcast_S_S512 (constantI S_ 32 0#32)))
      (addi list (broadcastInDim S512 ![] bcast_S_S512 (constantI S_ 32 512#32))) list)

theorem starts_val : ∀ j : Fin 512, starts (ix2 j 0) = BitVec.ofNat 32 (chanN j.val) := by decide +kernel

/-- The weights the call is given. -/
def weights (W : FVec Ideal S1x1024x4096 .f32) : FVec Ideal S1024x4096 .bf16 :=
  side (extractStridedSlice S1024x1536 ![0, 0] (shapeCast S1024x4096 W shapeCasts_S1x1024x4096_S1024x4096) slices_S1024x4096_S1024x1536_0_0)
    (Host.gather gather_S1024x512_S512x1_S1024x512_0_1_n_n_1_1_10241
      (extractStridedSlice S1024x512 ![0, 1536] (shapeCast S1024x4096 W shapeCasts_S1x1024x4096_S1024x4096) slices_S1024x4096_S1024x512_0_1536) starts)
    (extractStridedSlice S1024x2048 ![0, 2048] (shapeCast S1024x4096 W shapeCasts_S1x1024x4096_S1024x4096) slices_S1024x4096_S1024x2048_0_2048)

/-- What an operation of three operands leaves, each operand at its own reference. -/
theorem three_result {x a b y : Ref sig .tc}
    (f : ((k : Fin 3) → ((![x, a, b] : Fin 3 → Ref sig .tc) k).ty.Contents (Elt Ideal)) → y.ty.Contents (Elt Ideal)) (hxs hy)
    (U : Valuation τ sig (Elt Ideal)) :
    (StableHlo.nary (τ := τ) ![x, a, b] y f hxs hy).result U (no_index (Proc.devRef .tc y))
      = f (Fin.cons (U (Proc.devRef .tc x)) (Fin.cons (U (Proc.devRef .tc a)) (Fin.cons (U (Proc.devRef .tc b)) (fun i => i.elim0)))) := by
  rw [StableHlo.nary_result]; congr 1; funext k; fin_cases k <;> rfl

/-- The start indices at the call. -/
theorem entry_starts (c : Dev nD) : (V m c main_v26 : IVec S512x1 32) = starts := by
  after_reads_simp
  rfl

set_option maxHeartbeats 1000000 in
/-- The weight operand at the call is that array. -/
theorem entry (c : Dev nD) : (V m c main_v33 : FVec Ideal S1024x4096 .bf16) = weights (m ((c : Thread nD τ).loc main_arg2)) := by
  after_reads_simp [↓three_result]
  rfl

/-- The columns of queries, keys and values. -/
theorem low (W : FVec Ideal S1x1024x4096 .f32) (k : Fin 1024) (z : Fin 4096) (hz : z.val < 1536) :
    weights W (ix2 k z) = W (ix3 0 k z) := by
  refine (side_low _ _ _ k z ⟨z.val, hz⟩ rfl).trans ?_
  pointwise

/-- The columns of the gates. -/
theorem high (W : FVec Ideal S1x1024x4096 .f32) (k : Fin 1024) (z : Fin 4096) (hz : 2048 ≤ z.val) :
    weights W (ix2 k z) = W (ix3 0 k z) := by
  refine (side_high _ _ _ k z ⟨z.val - 2048, by omega⟩ (by dsimp only; omega)).trans ?_
  pointwise
  congr 2
  exact Fin.ext (by dsimp only; omega)

/-- The columns of the state-space input. -/
theorem mid (W : FVec Ideal S1x1024x4096 .f32) (k : Fin 1024) (z : Fin 4096) (j : Fin 512) (hz : z.val = 1536 + j.val) :
    weights W (ix2 k z) = W (ix3 0 k ⟨1536 + chanN j.val, by have := chanN_lt j; omega⟩) := by
  refine (side_mid _ _ _ k z j hz).trans ((gather_cols _ _ k j (starts_val j)).trans ?_)
  pointwise [chan]

end Cert.InprojIdeal.Weight

end
-- ==== Proof.InprojBlock.lean ====
/- The arrays the projection kernel leaves. -/
module

public import proofs.«01_k».proof.Proof.Gen.InprojIdeal.Value
public import proofs.«01_k».proof.Proof.Dense
public import proofs.«01_k».proof.Proof.InprojWeight
public import Idealize.ShloMosaic.Lib.Pipeline.ValueKit
public import Idealize.ShloMosaic.Lib.StableHlo.RunRead

@[expose] public section

set_option maxRecDepth 16384

noncomputable section

namespace Cert.InprojIdeal.Block

open Cert.InprojIdeal Cert.InprojIdeal.Gen Idealize.ShloMosaic Idealize.ShloMosaic.TcCoe Idealize.SL.Sem Cert.Dense Cert.Slab
open Idealize.ShloMosaic.Pipeline (Dat)
open Cert.InprojIdeal.Weight (weights)

section formula
variable (H : FVec Ideal S8192x4096 .f32) (G : FVec Ideal S1x1024 .f32) (W : FVec Ideal S1x1024x4096 .f32)

/-- Entry `j` of batch `b`'s token `t` of the token-major `H`. -/
def row (b : Fin 4) (t : Fin 8192) (j : Fin 1024) : EReal := H (ix2 t (⟨b.val * 1024 + j.val, by omega⟩ : Fin 4096))

/-- Column `z` of the projection of batch `b`'s normed token `t`. -/
def proj (b : Fin 4) (t : Fin 8192) (z : Fin 4096) : EReal :=
  ∑ k, nrm (row H b t) (fun l => G (ix2 0 l)) k * W (ix3 0 k z)

/-- The scaled queries. -/
def OQ : FVec Ideal S8192x2048 .bf16 := fun i =>
  proj H G W ⟨(i 1).val / 512, by have : (i 1).val < 2048 := (i 1).isLt; omega⟩ (i 0) ⟨(i 1).val % 512, by omega⟩
    * Ideal.ofBits FTy.f32 0x3E000000#32

/-- The keys. -/
def OK : FVec Ideal S8192x2048 .bf16 := fun i =>
  proj H G W ⟨(i 1).val / 512, by have : (i 1).val < 2048 := (i 1).isLt; omega⟩ (i 0) ⟨512 + (i 1).val % 512, by omega⟩

/-- The values. -/
def OV : FVec Ideal S8192x2048 .bf16 := fun i =>
  proj H G W ⟨(i 1).val / 512, by have : (i 1).val < 2048 := (i 1).isLt; omega⟩ (i 0) ⟨1024 + (i 1).val % 512, by omega⟩

/-- The state-space input, in slabs. -/
def OS : FVec Ideal S4x8192x512 .f32 := fun i =>
  proj H G W ⟨(i 2).val / 128, by have : (i 2).val < 512 := (i 2).isLt; omega⟩ (i 1)
    ⟨1536 + chanN ((i 0).val * 128 + (i 2).val % 128), by
      have : (i 0).val < 4 := (i 0).isLt
      have := chanN_lt ⟨(i 0).val * 128 + (i 2).val % 128, by omega⟩
      dsimp only at this
      omega⟩

/-- The gates of the attention branch. -/
def OGA : FVec Ideal S8192x4096 .bf16 := fun i =>
  logi (proj H G W ⟨(i 1).val / 1024, by have : (i 1).val < 4096 := (i 1).isLt; omega⟩ (i 0) ⟨2048 + (i 1).val % 1024, by omega⟩)

/-- The gates of the state-space branch. -/
def OGS : FVec Ideal S8192x4096 .bf16 := fun i =>
  logi (proj H G W ⟨(i 1).val / 1024, by have : (i 1).val < 4096 := (i 1).isLt; omega⟩ (i 0) ⟨3072 + (i 1).val % 1024, by omega⟩)

end formula

section body
variable (x0 : Vec Ideal S512x1024 .f32) (x1 : Vec Ideal S1x1024 .f32) (x2 : Vec Ideal S1024x4096 .bf16)

/-- The product of a block's normed row `a` with column `z` of the weights. -/
def dot (a : Fin 512) (z : Fin 4096) : EReal :=
  ∑ k, nrm (fun l => x0 (ix2 a l)) (fun l => x1 (ix2 0 l)) k * x2 (ix2 k z)

/-- The normed rows of a block. -/
theorem norm_val (a : Fin 512) (k : Fin 1024) :
    k0_pay2 x0 x1 (ix2 a k) = nrm (fun l => x0 (ix2 a l)) (fun l => x1 (ix2 0 l)) k := by
  pointwise [k0_pay2, nrm]

theorem norm_val' (a : Fin 512) (k : Fin 1024) :
    k0_pay12 x0 x1 x2 (ix2 a k) = nrm (fun l => x0 (ix2 a l)) (fun l => x1 (ix2 0 l)) k := by
  refine (norm_val (View.ld x0 r0_0) (View.ld x1 r0_1) a k).trans ?_
  have h0 : ∀ l, View.ld x0 r0_0 (ix2 a l) = x0 (ix2 a l) := fun l => by pointwise
  have h1 : ∀ l, View.ld x1 r0_1 (ix2 0 l) = x1 (ix2 0 l) := fun l => by pointwise
  simp only [h0, h1]

/-- The queries of a block. -/
theorem out3 (a : Fin 512) (j : Fin 512) :
    out0_3 x0 x1 x2 (ix2 a j) = dot x0 x1 x2 a ⟨j.val, by omega⟩ * Ideal.ofBits FTy.f32 0x3E000000#32 := by
  frame_out
  pointwise [k0_pay3]
  simp only [norm_val, dot]

/-- The keys of a block. -/
theorem out4 (a : Fin 512) (j : Fin 512) :
    out0_4 x0 x1 x2 (ix2 a j) = dot x0 x1 x2 a ⟨512 + j.val, by omega⟩ := by
  frame_out
  pointwise [k0_pay4]
  simp only [norm_val, dot]

/-- The values of a block. -/
theorem out5 (a : Fin 512) (j : Fin 512) :
    out0_5 x0 x1 x2 (ix2 a j) = dot x0 x1 x2 a ⟨1024 + j.val, by omega⟩ := by
  frame_out
  pointwise [k0_pay5]
  simp only [norm_val, dot]

/-- The attention branch's gates of a block. -/
theorem out7 (a : Fin 512) (j : Fin 1024) :
    out0_7 x0 x1 x2 (ix2 a j) = logi (dot x0 x1 x2 a ⟨2048 + j.val, by omega⟩) := by
  frame_out
  pointwise [k0_pay11]
  simp only [norm_val', dot, logi, zero_sub]

/-- The state-space branch's gates of a block. -/
theorem out8 (a : Fin 512) (j : Fin 1024) :
    out0_8 x0 x1 x2 (ix2 a j) = logi (dot x0 x1 x2 a ⟨3072 + j.val, by omega⟩) := by
  frame_out
  pointwise [k0_pay1]
  simp only [norm_val', dot, logi, zero_sub]

/-- The pieces of the slab output, put together. -/
theorem slab_val (P0 : Vec Ideal S512x1024 .f32) (P1 : Vec Ideal S1x1024 .f32) (P2 : Vec Ideal S1024x512 .bf16)
    (q : Fin 4) (a : Fin 512) (j : Fin 128) :
    Cert.InprojIdeal.Value.E6 P0 P1 P2 (ix3 q a j) = k0_pay6 (k0_pay2 P0 P1) P2 (ix2 a (⟨q.val * 128 + j.val, by omega⟩ : Fin 512)) := by
  have hi : Cert.InprojIdeal.Value.ix6_0 (ix3 q a j) = ix2 a (⟨q.val * 128 + j.val, by omega⟩ : Fin 512) := by
    funext e; fin_cases e <;> rfl
  rw [← hi]
  rfl

/-- The product behind the slab output. -/
theorem prod_val (N : FVec Ideal S512x1024 .bf16) (a : Fin 512) (z : Fin 512) :
    k0_pay6 N (View.ld x2 r0_6) (ix2 a z) = ∑ k, N (ix2 a k) * x2 (ix2 k (⟨1536 + z.val, by omega⟩ : Fin 4096)) := by
  pointwise [k0_pay6]

/-- The slabs of a block. -/
theorem out6 (q : Fin 4) (a : Fin 512) (j : Fin 128) :
    out0_6 x0 x1 x2 (ix3 q a j) = dot x0 x1 x2 a ⟨1536 + (q.val * 128 + j.val), by omega⟩ := by
  have h : out0_6 x0 x1 x2 (ix3 q a j)
      = k0_pay6 (k0_pay12 x0 x1 x2) (View.ld x2 r0_6) (ix2 a (⟨q.val * 128 + j.val, by omega⟩ : Fin 512)) :=
    (Cert.InprojIdeal.Value.canon6_eq _ _ _ _).trans (slab_val _ _ _ _ _ _)
  rw [h, prod_val]
  simp only [norm_val', dot]

end body

variable (m : (ℓ : Loc nD τ sig) → Buf (Elt Ideal) ℓ)

/-- The block index of every window at grid point `t`. -/
theorem idx_val : ∀ t : Fin cfg0.N, win0_0.index t = ![t.val % 16, t.val / 16] ∧ win0_1.index t = ![0, 0] ∧ win0_2.index t = ![0, 0]
    ∧ win0_3.index t = ![t.val % 16, t.val / 16] ∧ win0_4.index t = ![t.val % 16, t.val / 16] ∧ win0_5.index t = ![t.val % 16, t.val / 16]
    ∧ win0_6.index t = ![0, t.val % 16, t.val / 16] ∧ win0_7.index t = ![t.val % 16, t.val / 16]
    ∧ win0_8.index t = ![t.val % 16, t.val / 16] ∧ t.val / 16 < 4 :=
  (by decide +kernel : ∀ t : Fin grid0.N, win0_0.index t = ![t.val % 16, t.val / 16] ∧ win0_1.index t = ![0, 0] ∧ win0_2.index t = ![0, 0]
    ∧ win0_3.index t = ![t.val % 16, t.val / 16] ∧ win0_4.index t = ![t.val % 16, t.val / 16] ∧ win0_5.index t = ![t.val % 16, t.val / 16]
    ∧ win0_6.index t = ![0, t.val % 16, t.val / 16] ∧ win0_7.index t = ![t.val % 16, t.val / 16]
    ∧ win0_8.index t = ![t.val % 16, t.val / 16] ∧ t.val / 16 < 4)

/-- The block of the hidden state at grid point `t`: 512 tokens of one batch. -/
theorem hid_blk (c : Dev nD) (t : Fin cfg0.N) (b : Fin 4) (hb : b.val = t.val / 16) (a : Fin 512) (r : Fin 8192)
    (hr : r.val = t.val % 16 * 512 + a.val) (k : Fin 1024) :
    iblk m c 0 t (ix2 a k) = row (m ((c : Thread nD τ).loc main_arg0)) b r k := by
  unfold row
  blk_point [iblk, V, idx_val t]

/-- The gain row at the call. -/
theorem entry_gain (c : Dev nD) : (V m c main_v32 : FVec Ideal S1x1024 .f32)
    = shapeCast S1x1024 (shapeCast S1024 (m ((c : Thread nD τ).loc main_arg1)) shapeCasts_S1x1024_S1024) shapeCasts_S1024_S1x1024 := by
  after_reads_simp
  rfl

/-- The gain's block is the gain. -/
theorem gain_blk (c : Dev nD) (t : Fin cfg0.N) (k : Fin 1024) :
    iblk m c 1 t (ix2 0 k) = m ((c : Thread nD τ).loc main_arg1) (ix2 0 k) := by
  have he : ((cfg0.win 1).blk t).view.emb (ix2 0 k) = ix2 0 k := by blk_ext [idx_val t]
  show V m c main_v32 (((cfg0.win 1).blk t).view.emb (ix2 0 k)) = _
  rw [he, entry_gain]
  pointwise

/-- The weights' block is the weights. -/
theorem weight_blk (c : Dev nD) (t : Fin cfg0.N) (k : Fin 1024) (z : Fin 4096) :
    iblk m c 2 t (ix2 k z) = weights (m ((c : Thread nD τ).loc main_arg2)) (ix2 k z) := by
  have he : ((cfg0.win 2).blk t).view.emb (ix2 k z) = ix2 k z := by blk_ext [idx_val t]
  show V m c main_v33 (((cfg0.win 2).blk t).view.emb (ix2 k z)) = _
  rw [he, Cert.InprojIdeal.Weight.entry]

/-- A product in the block is a column of the projection, at the column that the weights have there. -/
theorem dot_blk (c : Dev nD) (t : Fin cfg0.N) (b : Fin 4) (hb : b.val = t.val / 16) (a : Fin 512) (r : Fin 8192)
    (hr : r.val = t.val % 16 * 512 + a.val) (z ch : Fin 4096)
    (hz : ∀ k, weights (m ((c : Thread nD τ).loc main_arg2)) (ix2 k z) = m ((c : Thread nD τ).loc main_arg2) (ix3 0 k ch)) :
    dot (iblk m c 0 t) (iblk m c 1 t) (iblk m c 2 t) a z
      = proj (m ((c : Thread nD τ).loc main_arg0)) (m ((c : Thread nD τ).loc main_arg1)) (m ((c : Thread nD τ).loc main_arg2)) b r ch := by
  simp only [dot, proj, hid_blk m c t b hb a r hr, gain_blk, weight_blk, hz]

/-- Grid point `t`'s batch. -/
theorem batch (t : Fin cfg0.N) : ∃ b : Fin 4, b.val = t.val / 16 := ⟨⟨t.val / 16, (idx_val t).2.2.2.2.2.2.2.2.2⟩, rfl⟩

/-- What grid point `t` leaves in its block of the queries. -/
theorem point3 (c : Dev nD) (t : Fin cfg0.N) (y : S512x512.Idx) :
    out0_3 (iblk m c 0 t) (iblk m c 1 t) (iblk m c 2 t) y
      = OQ (m ((c : Thread nD τ).loc main_arg0)) (m ((c : Thread nD τ).loc main_arg1)) (m ((c : Thread nD τ).loc main_arg2))
          (((cfg0.win 3).blk t).view.emb y) := by
  obtain ⟨a, j, rfl⟩ : ∃ (a : Fin 512) (j : Fin 512), y = ix2 a j := ⟨y 0, y 1, by funext e; fin_cases e <;> rfl⟩
  obtain ⟨b, hb⟩ := batch t
  obtain ⟨r, hr⟩ : ∃ r : Fin 8192, r.val = t.val % 16 * 512 + a.val := ⟨⟨t.val % 16 * 512 + a.val, by omega⟩, rfl⟩
  have he : ((cfg0.win 3).blk t).view.emb (ix2 a j) = ix2 r (⟨b.val * 512 + j.val, by omega⟩ : Fin 2048) := by
    blk_ext [idx_val t]
  rw [he, out3, dot_blk m c t b hb a r hr ⟨j.val, by omega⟩ ⟨j.val, by omega⟩
    (fun k => Cert.InprojIdeal.Weight.low _ k _ (by dsimp only; omega))]
  have h1 : (⟨(b.val * 512 + j.val) / 512, by omega⟩ : Fin 4) = b := Fin.ext (by dsimp only; omega)
  have h2 : (⟨(b.val * 512 + j.val) % 512, by omega⟩ : Fin 4096) = ⟨j.val, by omega⟩ := Fin.ext (by dsimp only; omega)
  show _ = proj _ _ _ ⟨(b.val * 512 + j.val) / 512, _⟩ r ⟨(b.val * 512 + j.val) % 512, _⟩ * _
  rw [h1, h2]

/-- The queries after the run. -/
theorem final3 (c : Dev nD) : (dats m 0 c).arrAt 3 (cfgs 0).N
    = OQ (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point3 m c t y

/-- What grid point `t` leaves in its block of the keys. -/
theorem point4 (c : Dev nD) (t : Fin cfg0.N) (y : S512x512.Idx) :
    out0_4 (iblk m c 0 t) (iblk m c 1 t) (iblk m c 2 t) y
      = OK (m ((c : Thread nD τ).loc main_arg0)) (m ((c : Thread nD τ).loc main_arg1)) (m ((c : Thread nD τ).loc main_arg2))
          (((cfg0.win 4).blk t).view.emb y) := by
  obtain ⟨a, j, rfl⟩ : ∃ (a : Fin 512) (j : Fin 512), y = ix2 a j := ⟨y 0, y 1, by funext e; fin_cases e <;> rfl⟩
  obtain ⟨b, hb⟩ := batch t
  obtain ⟨r, hr⟩ : ∃ r : Fin 8192, r.val = t.val % 16 * 512 + a.val := ⟨⟨t.val % 16 * 512 + a.val, by omega⟩, rfl⟩
  have he : ((cfg0.win 4).blk t).view.emb (ix2 a j) = ix2 r (⟨b.val * 512 + j.val, by omega⟩ : Fin 2048) := by
    blk_ext [idx_val t]
  rw [he, out4, dot_blk m c t b hb a r hr ⟨512 + j.val, by omega⟩ ⟨512 + j.val, by omega⟩
    (fun k => Cert.InprojIdeal.Weight.low _ k _ (by dsimp only; omega))]
  have h1 : (⟨(b.val * 512 + j.val) / 512, by omega⟩ : Fin 4) = b := Fin.ext (by dsimp only; omega)
  have h2 : (⟨512 + (b.val * 512 + j.val) % 512, by omega⟩ : Fin 4096) = ⟨512 + j.val, by omega⟩ := Fin.ext (by dsimp only; omega)
  show _ = proj _ _ _ ⟨(b.val * 512 + j.val) / 512, _⟩ r ⟨512 + (b.val * 512 + j.val) % 512, _⟩
  rw [h1, h2]

/-- The keys after the run. -/
theorem final4 (c : Dev nD) : (dats m 0 c).arrAt 4 (cfgs 0).N
    = OK (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point4 m c t y

/-- What grid point `t` leaves in its block of the values. -/
theorem point5 (c : Dev nD) (t : Fin cfg0.N) (y : S512x512.Idx) :
    out0_5 (iblk m c 0 t) (iblk m c 1 t) (iblk m c 2 t) y
      = OV (m ((c : Thread nD τ).loc main_arg0)) (m ((c : Thread nD τ).loc main_arg1)) (m ((c : Thread nD τ).loc main_arg2))
          (((cfg0.win 5).blk t).view.emb y) := by
  obtain ⟨a, j, rfl⟩ : ∃ (a : Fin 512) (j : Fin 512), y = ix2 a j := ⟨y 0, y 1, by funext e; fin_cases e <;> rfl⟩
  obtain ⟨b, hb⟩ := batch t
  obtain ⟨r, hr⟩ : ∃ r : Fin 8192, r.val = t.val % 16 * 512 + a.val := ⟨⟨t.val % 16 * 512 + a.val, by omega⟩, rfl⟩
  have he : ((cfg0.win 5).blk t).view.emb (ix2 a j) = ix2 r (⟨b.val * 512 + j.val, by omega⟩ : Fin 2048) := by
    blk_ext [idx_val t]
  rw [he, out5, dot_blk m c t b hb a r hr ⟨1024 + j.val, by omega⟩ ⟨1024 + j.val, by omega⟩
    (fun k => Cert.InprojIdeal.Weight.low _ k _ (by dsimp only; omega))]
  have h1 : (⟨(b.val * 512 + j.val) / 512, by omega⟩ : Fin 4) = b := Fin.ext (by dsimp only; omega)
  have h2 : (⟨1024 + (b.val * 512 + j.val) % 512, by omega⟩ : Fin 4096) = ⟨1024 + j.val, by omega⟩ := Fin.ext (by dsimp only; omega)
  show _ = proj _ _ _ ⟨(b.val * 512 + j.val) / 512, _⟩ r ⟨1024 + (b.val * 512 + j.val) % 512, _⟩
  rw [h1, h2]

/-- The values after the run. -/
theorem final5 (c : Dev nD) : (dats m 0 c).arrAt 5 (cfgs 0).N
    = OV (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  exact point5 m c t y

/-- What grid point `t` leaves in its block of the attention branch's gates. -/
theorem point7 (c : Dev nD) (t : Fin cfg0.N) (y : S512x1024.Idx) :
    out0_7 (iblk m c 0 t) (iblk m c 1 t) (iblk m c 2 t) y
      = OGA (m ((c : Thread nD τ).loc main_arg0)) (m ((c : Thread nD τ).loc main_arg1)) (m ((c : Thread nD τ).loc main_arg2))
          (((cfg0.win 7).blk t).view.emb y) := by
  obtain ⟨a, j, rfl⟩ : ∃ (a : Fin 512) (j : Fin 1024), y = ix2 a j := ⟨y 0, y 1, by funext e; fin_cases e <;> rfl⟩
  obtain ⟨b, hb⟩ := batch t
  obtain ⟨r, hr⟩ : ∃ r : Fin 8192, r.val = t.val % 16 * 512 + a.val := ⟨⟨t.val % 16 * 512 + a.val, by omega⟩, rfl⟩
  have he : ((cfg0.win 7).blk t).view.emb (ix2 a j) = ix2 r (⟨b.val * 1024 + j.val, by omega⟩ : Fin 4096) := by
    blk_ext [idx_val t]
  rw [he, out7, dot_blk m c t b hb a r hr ⟨2048 + j.val, by omega⟩ ⟨2048 + j.val, by omega⟩
    (fun k => Cert.InprojIdeal.Weight.high _ k _ (by dsimp only; omega))]
  have h1 : (⟨(b.val * 1024 + j.val) / 1024, by omega⟩ : Fin 4) = b := Fin.ext (by dsimp only; omega)
  have h2 : (⟨2048 + (b.val * 1024 + j.val) % 1024, by omega⟩ : Fin 4096) = ⟨2048 + j.val, by omega⟩ := Fin.ext (by dsimp only; omega)
  show _ = logi (proj _ _ _ ⟨(b.val * 1024 + j.val) / 1024, _⟩ r ⟨2048 + (b.val * 1024 + j.val) % 1024, _⟩)
  rw [h1, h2]

/-- The attention branch's gates after the run. -/
theorem final7 (c : Dev nD) : (dats m 0 c).arrAt 7 (cfgs 0).N
    = OGA (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  exact point7 m c t y

/-- What grid point `t` leaves in its block of the state-space branch's gates. -/
theorem point8 (c : Dev nD) (t : Fin cfg0.N) (y : S512x1024.Idx) :
    out0_8 (iblk m c 0 t) (iblk m c 1 t) (iblk m c 2 t) y
      = OGS (m ((c : Thread nD τ).loc main_arg0)) (m ((c : Thread nD τ).loc main_arg1)) (m ((c : Thread nD τ).loc main_arg2))
          (((cfg0.win 8).blk t).view.emb y) := by
  obtain ⟨a, j, rfl⟩ : ∃ (a : Fin 512) (j : Fin 1024), y = ix2 a j := ⟨y 0, y 1, by funext e; fin_cases e <;> rfl⟩
  obtain ⟨b, hb⟩ := batch t
  obtain ⟨r, hr⟩ : ∃ r : Fin 8192, r.val = t.val % 16 * 512 + a.val := ⟨⟨t.val % 16 * 512 + a.val, by omega⟩, rfl⟩
  have he : ((cfg0.win 8).blk t).view.emb (ix2 a j) = ix2 r (⟨b.val * 1024 + j.val, by omega⟩ : Fin 4096) := by
    blk_ext [idx_val t]
  rw [he, out8, dot_blk m c t b hb a r hr ⟨3072 + j.val, by omega⟩ ⟨3072 + j.val, by omega⟩
    (fun k => Cert.InprojIdeal.Weight.high _ k _ (by dsimp only; omega))]
  have h1 : (⟨(b.val * 1024 + j.val) / 1024, by omega⟩ : Fin 4) = b := Fin.ext (by dsimp only; omega)
  have h2 : (⟨3072 + (b.val * 1024 + j.val) % 1024, by omega⟩ : Fin 4096) = ⟨3072 + j.val, by omega⟩ := Fin.ext (by dsimp only; omega)
  show _ = logi (proj _ _ _ ⟨(b.val * 1024 + j.val) / 1024, _⟩ r ⟨3072 + (b.val * 1024 + j.val) % 1024, _⟩)
  rw [h1, h2]

/-- The state-space branch's gates after the run. -/
theorem final8 (c : Dev nD) : (dats m 0 c).arrAt 8 (cfgs 0).N
    = OGS (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  exact point8 m c t y

/-- What grid point `t` leaves in its block of the slabs. -/
theorem point6 (c : Dev nD) (t : Fin cfg0.N) (y : S4x512x128.Idx) :
    out0_6 (iblk m c 0 t) (iblk m c 1 t) (iblk m c 2 t) y
      = OS (m ((c : Thread nD τ).loc main_arg0)) (m ((c : Thread nD τ).loc main_arg1)) (m ((c : Thread nD τ).loc main_arg2))
          (((cfg0.win 6).blk t).view.emb y) := by
  obtain ⟨q, a, j, rfl⟩ : ∃ (q : Fin 4) (a : Fin 512) (j : Fin 128), y = ix3 q a j :=
    ⟨y 0, y 1, y 2, by funext e; fin_cases e <;> rfl⟩
  obtain ⟨b, hb⟩ := batch t
  obtain ⟨r, hr⟩ : ∃ r : Fin 8192, r.val = t.val % 16 * 512 + a.val := ⟨⟨t.val % 16 * 512 + a.val, by omega⟩, rfl⟩
  have he : ((cfg0.win 6).blk t).view.emb (ix3 q a j) = ix3 q r (⟨b.val * 128 + j.val, by omega⟩ : Fin 512) := by
    blk_ext [idx_val t]
  have hn := chanN_lt ⟨q.val * 128 + j.val, by omega⟩
  dsimp only at hn
  rw [he, out6, dot_blk m c t b hb a r hr ⟨1536 + (q.val * 128 + j.val), by omega⟩ ⟨1536 + chanN (q.val * 128 + j.val), by omega⟩
    (fun k => Cert.InprojIdeal.Weight.mid _ k _ ⟨q.val * 128 + j.val, by omega⟩ rfl)]
  have h1 : (⟨(b.val * 128 + j.val) / 128, by omega⟩ : Fin 4) = b := Fin.ext (by dsimp only; omega)
  have h3 : (b.val * 128 + j.val) % 128 = j.val := by omega
  have h2 : (⟨1536 + chanN (q.val * 128 + (b.val * 128 + j.val) % 128), by rw [h3]; omega⟩ : Fin 4096)
      = ⟨1536 + chanN (q.val * 128 + j.val), by omega⟩ := Fin.ext (by dsimp only; rw [h3])
  show _ = proj _ _ _ ⟨(b.val * 128 + j.val) / 128, _⟩ r ⟨1536 + chanN (q.val * 128 + (b.val * 128 + j.val) % 128), _⟩
  rw [h1, h2]

/-- The slabs after the run. -/
theorem final6 (c : Dev nD) : (dats m 0 c).arrAt 6 (cfgs 0).N
    = OS (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  exact point6 m c t y

end Cert.InprojIdeal.Block

end

end
-- ==== Proof.InprojClaim.lean ====
/- The value claim of the input projection: the arrays the kernel leaves are the reference's. -/
module

public import proofs.«01_k».proof.Defs
public import proofs.«01_k».proof.Proof.InprojBlock
public import proofs.«01_k».proof.Proof.Gen.InprojRefIdeal.Run
public import proofs.«01_k».proof.Proof.Gen.InprojRefIdeal.Read

@[expose] public section

set_option maxRecDepth 16384

noncomputable section

namespace Cert.InprojClaim

open Idealize.ShloMosaic Idealize.SL.Sem Cert.InprojRefIdeal.Read Cert.Dense Cert.Slab
open Cert.InprojIdeal.Block (OQ OK OV OS OGA OGS row proj)

variable (H : FVec Ideal Cert.InprojRefIdeal.S8192x4096 .f32) (G : FVec Ideal Cert.InprojRefIdeal.S1x1024 .f32)
  (W : FVec Ideal Cert.InprojRefIdeal.S1x1024x4096 .f32)

/-- The reference's normed rows. -/
theorem norm_val (b : Fin 4) (t : Fin 8192) (j : Fin 1024) :
    val_main_v15 (F := Ideal) H G (ix3 b t j) = nrm (row H b t) (fun l => G (ix2 0 l)) j := by
  simp only [nrm, row]
  pointwise [val_main_v0, val_main_v1, val_main_v2, val_main_v3, val_main_cst, val_main_v4, val_main_v5, val_main_cst_0, val_main_v6,
    val_main_v7, val_main_cst_1, val_main_v8, val_main_v9, val_main_v10, val_main_v11, val_main_v12, val_main_v13, val_main_v14,
    val_main_v15]

/-- The reference's projection. -/
theorem proj_val (b : Fin 4) (t : Fin 8192) (z : Fin 4096) :
    val_main_v17 (F := Ideal) H G W (ix3 b t z) = proj H G W b t z := by
  have hn := fun b t j => norm_val H G b t j
  simp only [proj, ← hn]
  generalize hN : val_main_v15 (F := Ideal) H G = N at hn
  pointwise [val_main_v16, val_main_v17]
  simp only [hN]

/-- The reference's queries are the formula. -/
theorem ref_OQ : val_main_v38 (F := Ideal) H G W = OQ H G W := by
  funext i
  obtain ⟨t, b, j, rfl⟩ : ∃ (t : Fin 8192) (b : Fin 4) (j : Fin 512), i = ix2 t (⟨b.val * 512 + j.val, by omega⟩ : Fin 2048) := by
    have h : (i 1).val < 2048 := (i 1).isLt
    refine ⟨i 0, ⟨(i 1).val / 512, by omega⟩, ⟨(i 1).val % 512, by omega⟩, ?_⟩
    funext e; fin_cases e
    · rfl
    · exact Fin.ext (show (i 1).val = (i 1).val / 512 * 512 + (i 1).val % 512 by omega)
  have h1 : (⟨(b.val * 512 + j.val) / 512, by omega⟩ : Fin 4) = b := Fin.ext (by dsimp only; omega)
  have h2 : (⟨(b.val * 512 + j.val) % 512, by omega⟩ : Fin 4096) = ⟨j.val, by omega⟩ := Fin.ext (by dsimp only; omega)
  show _ = proj _ _ _ ⟨(b.val * 512 + j.val) / 512, _⟩ t ⟨(b.val * 512 + j.val) % 512, _⟩ * Ideal.ofBits FTy.f32 0x3E000000#32
  rw [h1, h2, ← proj_val]
  generalize hN : val_main_v17 (F := Ideal) H G W = N
  pointwise [val_main_v18, val_main_cst_4, val_main_v34, val_main_v35, val_main_v36, val_main_v37, val_main_v38]
  simp only [hN]

/-- The reference's keys are the formula. -/
theorem ref_OK : val_main_v41 (F := Ideal) H G W = OK H G W := by
  funext i
  obtain ⟨t, b, j, rfl⟩ : ∃ (t : Fin 8192) (b : Fin 4) (j : Fin 512), i = ix2 t (⟨b.val * 512 + j.val, by omega⟩ : Fin 2048) := by
    have h : (i 1).val < 2048 := (i 1).isLt
    refine ⟨i 0, ⟨(i 1).val / 512, by omega⟩, ⟨(i 1).val % 512, by omega⟩, ?_⟩
    funext e; fin_cases e
    · rfl
    · exact Fin.ext (show (i 1).val = (i 1).val / 512 * 512 + (i 1).val % 512 by omega)
  have h1 : (⟨(b.val * 512 + j.val) / 512, by omega⟩ : Fin 4) = b := Fin.ext (by dsimp only; omega)
  have h2 : (⟨512 + (b.val * 512 + j.val) % 512, by omega⟩ : Fin 4096) = ⟨512 + j.val, by omega⟩ := Fin.ext (by dsimp only; omega)
  show _ = proj _ _ _ ⟨(b.val * 512 + j.val) / 512, _⟩ t ⟨512 + (b.val * 512 + j.val) % 512, _⟩
  rw [h1, h2, ← proj_val]
  generalize hN : val_main_v17 (F := Ideal) H G W = N
  pointwise [val_main_v19, val_main_v39, val_main_v40, val_main_v41]
  simp only [hN]

/-- The reference's values are the formula. -/
theorem ref_OV : val_main_v44 (F := Ideal) H G W = OV H G W := by
  funext i
  obtain ⟨t, b, j, rfl⟩ : ∃ (t : Fin 8192) (b : Fin 4) (j : Fin 512), i = ix2 t (⟨b.val * 512 + j.val, by omega⟩ : Fin 2048) := by
    have h : (i 1).val < 2048 := (i 1).isLt
    refine ⟨i 0, ⟨(i 1).val / 512, by omega⟩, ⟨(i 1).val % 512, by omega⟩, ?_⟩
    funext e; fin_cases e
    · rfl
    · exact Fin.ext (show (i 1).val = (i 1).val / 512 * 512 + (i 1).val % 512 by omega)
  have h1 : (⟨(b.val * 512 + j.val) / 512, by omega⟩ : Fin 4) = b := Fin.ext (by dsimp only; omega)
  have h2 : (⟨1024 + (b.val * 512 + j.val) % 512, by omega⟩ : Fin 4096) = ⟨1024 + j.val, by omega⟩ := Fin.ext (by dsimp only; omega)
  show _ = proj _ _ _ ⟨(b.val * 512 + j.val) / 512, _⟩ t ⟨1024 + (b.val * 512 + j.val) % 512, _⟩
  rw [h1, h2, ← proj_val]
  generalize hN : val_main_v17 (F := Ideal) H G W = N
  pointwise [val_main_v20, val_main_v42, val_main_v43, val_main_v44]
  simp only [hN]

/-- The reference's attention branch's gates are the formula. -/
theorem ref_OGA : val_main_v47 (F := Ideal) H G W = OGA H G W := by
  funext i
  obtain ⟨t, b, j, rfl⟩ : ∃ (t : Fin 8192) (b : Fin 4) (j : Fin 1024), i = ix2 t (⟨b.val * 1024 + j.val, by omega⟩ : Fin 4096) := by
    have h : (i 1).val < 4096 := (i 1).isLt
    refine ⟨i 0, ⟨(i 1).val / 1024, by omega⟩, ⟨(i 1).val % 1024, by omega⟩, ?_⟩
    funext e; fin_cases e
    · rfl
    · exact Fin.ext (show (i 1).val = (i 1).val / 1024 * 1024 + (i 1).val % 1024 by omega)
  have h1 : (⟨(b.val * 1024 + j.val) / 1024, by omega⟩ : Fin 4) = b := Fin.ext (by dsimp only; omega)
  have h2 : (⟨2048 + (b.val * 1024 + j.val) % 1024, by omega⟩ : Fin 4096) = ⟨2048 + j.val, by omega⟩ := Fin.ext (by dsimp only; omega)
  show _ = logi (proj _ _ _ ⟨(b.val * 1024 + j.val) / 1024, _⟩ t ⟨2048 + (b.val * 1024 + j.val) % 1024, _⟩)
  rw [h1, h2, ← proj_val]
  generalize hN : val_main_v17 (F := Ideal) H G W = N
  unfold logi
  pointwise [val_main_v22, val_main_v23, val_main_v24, val_main_cst_2, val_main_v25, val_main_v26, val_main_cst_3, val_main_v27, val_main_v28, val_main_v29, val_main_v45, val_main_v46, val_main_v47]
  simp only [hN]

/-- The reference's state-space branch's gates are the formula. -/
theorem ref_OGS : val_main_v50 (F := Ideal) H G W = OGS H G W := by
  funext i
  obtain ⟨t, b, j, rfl⟩ : ∃ (t : Fin 8192) (b : Fin 4) (j : Fin 1024), i = ix2 t (⟨b.val * 1024 + j.val, by omega⟩ : Fin 4096) := by
    have h : (i 1).val < 4096 := (i 1).isLt
    refine ⟨i 0, ⟨(i 1).val / 1024, by omega⟩, ⟨(i 1).val % 1024, by omega⟩, ?_⟩
    funext e; fin_cases e
    · rfl
    · exact Fin.ext (show (i 1).val = (i 1).val / 1024 * 1024 + (i 1).val % 1024 by omega)
  have h1 : (⟨(b.val * 1024 + j.val) / 1024, by omega⟩ : Fin 4) = b := Fin.ext (by dsimp only; omega)
  have h2 : (⟨3072 + (b.val * 1024 + j.val) % 1024, by omega⟩ : Fin 4096) = ⟨3072 + j.val, by omega⟩ := Fin.ext (by dsimp only; omega)
  show _ = logi (proj _ _ _ ⟨(b.val * 1024 + j.val) / 1024, _⟩ t ⟨3072 + (b.val * 1024 + j.val) % 1024, _⟩)
  rw [h1, h2, ← proj_val]
  generalize hN : val_main_v17 (F := Ideal) H G W = N
  unfold logi
  pointwise [val_main_v22, val_main_v23, val_main_v24, val_main_cst_2, val_main_v25, val_main_v26, val_main_cst_3, val_main_v27, val_main_v28, val_main_v30, val_main_v48, val_main_v49, val_main_v50]
  simp only [hN, show (2048 + (1024 + j.val) : ℕ) = 3072 + j.val by omega]

/-- The reference's slabs are the formula. -/
theorem ref_OS : val_main_v33 (F := Ideal) H G W = OS H G W := by
  funext i
  obtain ⟨q, t, b, p, l, rfl⟩ : ∃ (q : Fin 4) (t : Fin 8192) (b : Fin 4) (p : Fin 2) (l : Fin 64),
      i = ix3 q t (⟨b.val * 128 + (p.val * 64 + l.val), by omega⟩ : Fin 512) := by
    have h : (i 2).val < 512 := (i 2).isLt
    refine ⟨i 0, i 1, ⟨(i 2).val / 128, by omega⟩, ⟨(i 2).val % 128 / 64, by omega⟩, ⟨(i 2).val % 64, by omega⟩, ?_⟩
    funext e; fin_cases e
    · rfl
    · rfl
    · exact Fin.ext (show (i 2).val = (i 2).val / 128 * 128 + ((i 2).val % 128 / 64 * 64 + (i 2).val % 64) by omega)
  have h1 : (⟨(b.val * 128 + (p.val * 64 + l.val)) / 128, by omega⟩ : Fin 4) = b := Fin.ext (by dsimp only; omega)
  have h3 : chanN (q.val * 128 + (b.val * 128 + (p.val * 64 + l.val)) % 128) = 256 * p.val + 64 * q.val + l.val := by
    unfold chanN; omega
  have h2 : (⟨1536 + chanN (q.val * 128 + (b.val * 128 + (p.val * 64 + l.val)) % 128), by rw [h3]; omega⟩ : Fin 4096)
      = ⟨1536 + (256 * p.val + 64 * q.val + l.val), by omega⟩ := Fin.ext (by dsimp only; rw [h3])
  show _ = proj _ _ _ ⟨(b.val * 128 + (p.val * 64 + l.val)) / 128, _⟩ t
    ⟨1536 + chanN (q.val * 128 + (b.val * 128 + (p.val * 64 + l.val)) % 128), _⟩
  rw [h1, h2, ← proj_val]
  generalize hN : val_main_v17 (F := Ideal) H G W = N
  pointwise [val_main_v21, val_main_v31, val_main_v32, val_main_v33]
  simp only [hN, show (p.val * 256 + q.val * 64 + l.val : ℕ) = 256 * p.val + 64 * q.val + l.val by omega]

/-- The reference ends with its arguments unchanged and every counter at zero. -/
theorem ref_frame : Cert.quiescent_InprojRefIdeal (hInprojRefIdeal := Cert.InprojRefIdeal.Gen.facts) := fun m g _ =>
  (θ_run Cert.InprojRefIdeal.defs _ _).mono (fun r h => ⟨fun c => (h c).2.2.2.2.2.2, sem_eq_zero_of_no_sems (by decide) r.2⟩)
    (Cert.InprojRefIdeal.Value.run (F := Ideal) m g)

/-- The kernel and the reference, run from the same arguments, leave the same arrays. -/
theorem algebraic : Cert.algebraic_InprojIdeal_InprojRefIdeal (hInprojIdeal := Cert.InprojIdeal.Gen.facts)
    (hInprojRefIdeal := Cert.InprojRefIdeal.Gen.facts) := by
  intro m g m' g' hp ha
  refine ⟨fun c => OQ (m ((c.tc : Thread Cert.InprojIdeal.nD Cert.InprojIdeal.τ).loc Cert.InprojIdeal.main_arg0))
      (m ((c.tc : Thread Cert.InprojIdeal.nD Cert.InprojIdeal.τ).loc Cert.InprojIdeal.main_arg1))
      (m ((c.tc : Thread Cert.InprojIdeal.nD Cert.InprojIdeal.τ).loc Cert.InprojIdeal.main_arg2)),
    fun c => OK (m ((c.tc : Thread Cert.InprojIdeal.nD Cert.InprojIdeal.τ).loc Cert.InprojIdeal.main_arg0))
      (m ((c.tc : Thread Cert.InprojIdeal.nD Cert.InprojIdeal.τ).loc Cert.InprojIdeal.main_arg1))
      (m ((c.tc : Thread Cert.InprojIdeal.nD Cert.InprojIdeal.τ).loc Cert.InprojIdeal.main_arg2)),
    fun c => OV (m ((c.tc : Thread Cert.InprojIdeal.nD Cert.InprojIdeal.τ).loc Cert.InprojIdeal.main_arg0))
      (m ((c.tc : Thread Cert.InprojIdeal.nD Cert.InprojIdeal.τ).loc Cert.InprojIdeal.main_arg1))
      (m ((c.tc : Thread Cert.InprojIdeal.nD Cert.InprojIdeal.τ).loc Cert.InprojIdeal.main_arg2)),
    fun c => OS (m ((c.tc : Thread Cert.InprojIdeal.nD Cert.InprojIdeal.τ).loc Cert.InprojIdeal.main_arg0))
      (m ((c.tc : Thread Cert.InprojIdeal.nD Cert.InprojIdeal.τ).loc Cert.InprojIdeal.main_arg1))
      (m ((c.tc : Thread Cert.InprojIdeal.nD Cert.InprojIdeal.τ).loc Cert.InprojIdeal.main_arg2)),
    fun c => OGA (m ((c.tc : Thread Cert.InprojIdeal.nD Cert.InprojIdeal.τ).loc Cert.InprojIdeal.main_arg0))
      (m ((c.tc : Thread Cert.InprojIdeal.nD Cert.InprojIdeal.τ).loc Cert.InprojIdeal.main_arg1))
      (m ((c.tc : Thread Cert.InprojIdeal.nD Cert.InprojIdeal.τ).loc Cert.InprojIdeal.main_arg2)),
    fun c => OGS (m ((c.tc : Thread Cert.InprojIdeal.nD Cert.InprojIdeal.τ).loc Cert.InprojIdeal.main_arg0))
      (m ((c.tc : Thread Cert.InprojIdeal.nD Cert.InprojIdeal.τ).loc Cert.InprojIdeal.main_arg1))
      (m ((c.tc : Thread Cert.InprojIdeal.nD Cert.InprojIdeal.τ).loc Cert.InprojIdeal.main_arg2)), ?_, ?_⟩
  · refine (θ_run _ _ _).mono (fun r h c => ?_) (Cert.InprojIdeal.Value.run_blocks m g)
    obtain ⟨r0, r1, r2, r3, r4, r5, rest⟩ := h c
    exact ⟨r0.trans (Cert.InprojIdeal.Block.final3 m c), r1.trans (Cert.InprojIdeal.Block.final4 m c),
      r2.trans (Cert.InprojIdeal.Block.final5 m c), r3.trans (Cert.InprojIdeal.Block.final6 m c),
      r4.trans (Cert.InprojIdeal.Block.final7 m c), r5.trans (Cert.InprojIdeal.Block.final8 m c), rest⟩
  · refine (θ_run _ _ _).mono (fun r h c => ?_) (Cert.InprojRefIdeal.Value.run m' g')
    obtain ⟨r0, r1, r2, r3, r4, r5, rest⟩ := h c
    obtain ⟨h0, h1, h2⟩ := ha c
    rw [val_main_v38_eq, h0, h1, h2, ref_OQ] at r0
    rw [val_main_v41_eq, h0, h1, h2, ref_OK] at r1
    rw [val_main_v44_eq, h0, h1, h2, ref_OV] at r2
    rw [val_main_v33_eq, h0, h1, h2, ref_OS] at r3
    rw [val_main_v47_eq, h0, h1, h2, ref_OGA] at r4
    rw [val_main_v50_eq, h0, h1, h2, ref_OGS] at r5
    exact ⟨r0, r1, r2, r3, r4, r5, rest⟩

end Cert.InprojClaim

end

end
-- ==== Proof.MergeWeight.lean ====
/- The operands the merge call is given: the state-space branch's weights with their channels in slab order. -/
module

public import proofs.«01_k».proof.Proof.Gen.MergeIdeal.Value
public import proofs.«01_k».proof.Proof.Slab
public import Idealize.ShloMosaic.Lib.Pipeline.ValueKit
public import Idealize.ShloMosaic.Lib.StableHlo.RunRead

@[expose] public section

set_option maxRecDepth 16384

noncomputable section

namespace Cert.MergeIdeal.Weight

open Cert.MergeIdeal Cert.MergeIdeal.Gen Idealize.ShloMosaic Idealize.ShloMosaic.TcCoe Idealize.SL.Sem Cert.Slab

/-- Gathering a vector by the channel list. -/
theorem gather_vec (x : FVec Ideal S512 .f32) (w : IVec S512x1 32) (z : Fin 512)
    (hw : w (ix2 z 0) = BitVec.ofNat 32 (chanN z.val)) :
    Host.gather gather_S512_S512x1_S512_n_0_n_n_0_1_1 x w (ix1 z) = x (ix1 (chan z)) := by
  have hn := chanN_lt z
  unfold Host.gather
  congr 1
  funext e
  refine Fin.ext ?_
  have hs : gather_S512_S512x1_S512_n_0_n_n_0_1_1.start (ix1 z) w 0 = min (w (ix2 z 0)).toInt.toNat 511 := by
    unfold GatherDims.start
    rw [dif_pos (by decide)]
    congr 4
    funext d; refine Fin.ext ?_
    match d with
    | ⟨0, _⟩ => rfl
    | ⟨1, _⟩ => rfl
  rw [hw, toNat_ofNat _ (by omega), Nat.min_eq_left (by omega)] at hs
  match e with
  | ⟨0, _⟩ =>
    change gather_S512_S512x1_S512_n_0_n_n_0_1_1.start (ix1 z) w 0 + gather_S512_S512x1_S512_n_0_n_n_0_1_1.batchCoord (ix1 z) 0 + gather_S512_S512x1_S512_n_0_n_n_0_1_1.offCoord (ix1 z) 0 = _
    rw [hs, show gather_S512_S512x1_S512_n_0_n_n_0_1_1.batchCoord (ix1 z) 0 = 0 from rfl, show gather_S512_S512x1_S512_n_0_n_n_0_1_1.offCoord (ix1 z) 0 = 0 from rfl]
    rfl

/-- Gathering the rows of a square matrix by the channel list. -/
theorem gather_rows (x : FVec Ideal S512x512 .f32) (w : IVec S512x1 32) (z : Fin 512) (k : Fin 512)
    (hw : w (ix2 z 0) = BitVec.ofNat 32 (chanN z.val)) :
    Host.gather gather_S512x512_S512x1_S512x512_1_0_n_n_0_1_1512 x w (ix2 z k) = x (ix2 (chan z) k) := by
  have hn := chanN_lt z
  unfold Host.gather
  congr 1
  funext e
  refine Fin.ext ?_
  have hs : gather_S512x512_S512x1_S512x512_1_0_n_n_0_1_1512.start (ix2 z k) w 0 = min (w (ix2 z 0)).toInt.toNat 511 := by
    unfold GatherDims.start
    rw [dif_pos (by decide)]
    congr 4
    funext d; refine Fin.ext ?_
    match d with
    | ⟨0, _⟩ => rfl
    | ⟨1, _⟩ => rfl
  rw [hw, toNat_ofNat _ (by omega), Nat.min_eq_left (by omega)] at hs
  match e with
  | ⟨0, _⟩ =>
    change gather_S512x512_S512x1_S512x512_1_0_n_n_0_1_1512.start (ix2 z k) w 0 + gather_S512x512_S512x1_S512x512_1_0_n_n_0_1_1512.batchCoord (ix2 z k) 0 + gather_S512x512_S512x1_S512x512_1_0_n_n_0_1_1512.offCoord (ix2 z k) 0 = _
    rw [hs, show gather_S512x512_S512x1_S512x512_1_0_n_n_0_1_1512.batchCoord (ix2 z k) 0 = 0 from rfl, show gather_S512x512_S512x1_S512x512_1_0_n_n_0_1_1512.offCoord (ix2 z k) 0 = 0 from rfl]
    rfl
  | ⟨1, _⟩ => exact (show 0 + 0 + k.val = k.val by omega)

/-- Gathering the columns of a square matrix by the channel list. -/
theorem gather_cols (x : FVec Ideal S512x512 .f32) (w : IVec S512x1 32) (k : Fin 512) (z : Fin 512)
    (hw : w (ix2 z 0) = BitVec.ofNat 32 (chanN z.val)) :
    Host.gather gather_S512x512_S512x1_S512x512_0_1_n_n_1_1_5121 x w (ix2 k z) = x (ix2 k (chan z)) := by
  have hn := chanN_lt z
  unfold Host.gather
  congr 1
  funext e
  refine Fin.ext ?_
  have hs : gather_S512x512_S512x1_S512x512_0_1_n_n_1_1_5121.start (ix2 k z) w 1 = min (w (ix2 z 0)).toInt.toNat 511 := by
    unfold GatherDims.start
    rw [dif_pos (by decide)]
    congr 4
    funext d; refine Fin.ext ?_
    match d with
    | ⟨0, _⟩ => rfl
    | ⟨1, _⟩ => rfl
  rw [hw, toNat_ofNat _ (by omega), Nat.min_eq_left (by omega)] at hs
  match e with
  | ⟨0, _⟩ => exact (show 0 + 0 + k.val = k.val by omega)
  | ⟨1, _⟩ =>
    change gather_S512x512_S512x1_S512x512_0_1_n_n_1_1_5121.start (ix2 k z) w 1 + gather_S512x512_S512x1_S512x512_0_1_n_n_1_1_5121.batchCoord (ix2 k z) 1 + gather_S512x512_S512x1_S512x512_0_1_n_n_1_1_5121.offCoord (ix2 k z) 1 = _
    rw [hs, show gather_S512x512_S512x1_S512x512_0_1_n_n_1_1_5121.batchCoord (ix2 k z) 1 = 0 from rfl, show gather_S512x512_S512x1_S512x512_0_1_n_n_1_1_5121.offCoord (ix2 k z) 1 = 0 from rfl]
    rfl

/-- Gathering the rows of the output weights by the channel list. -/
theorem gather_wide (x : FVec Ideal S512x1024 .f32) (w : IVec S512x1 32) (z : Fin 512) (k : Fin 1024)
    (hw : w (ix2 z 0) = BitVec.ofNat 32 (chanN z.val)) :
    Host.gather gather_S512x1024_S512x1_S512x1024_1_0_n_n_0_1_11024 x w (ix2 z k) = x (ix2 (chan z) k) := by
  have hn := chanN_lt z
  unfold Host.gather
  congr 1
  funext e
  refine Fin.ext ?_
  have hs : gather_S512x1024_S512x1_S512x1024_1_0_n_n_0_1_11024.start (ix2 z k) w 0 = min (w (ix2 z 0)).toInt.toNat 511 := by
    unfold GatherDims.start
    rw [dif_pos (by decide)]
    congr 4
    funext d; refine Fin.ext ?_
    match d with
    | ⟨0, _⟩ => rfl
    | ⟨1, _⟩ => rfl
  rw [hw, toNat_ofNat _ (by omega), Nat.min_eq_left (by omega)] at hs
  match e with
  | ⟨0, _⟩ =>
    change gather_S512x1024_S512x1_S512x1024_1_0_n_n_0_1_11024.start (ix2 z k) w 0 + gather_S512x1024_S512x1_S512x1024_1_0_n_n_0_1_11024.batchCoord (ix2 z k) 0 + gather_S512x1024_S512x1_S512x1024_1_0_n_n_0_1_11024.offCoord (ix2 z k) 0 = _
    rw [hs, show gather_S512x1024_S512x1_S512x1024_1_0_n_n_0_1_11024.batchCoord (ix2 z k) 0 = 0 from rfl, show gather_S512x1024_S512x1_S512x1024_1_0_n_n_0_1_11024.offCoord (ix2 z k) 0 = 0 from rfl]
    rfl
  | ⟨1, _⟩ => exact (show 0 + 0 + k.val = k.val by omega)

/-- The channel list, as the host computes it. -/
def list : IVec S512 32 :=
  shapeCast S512 (addi
    (broadcastInDim S4x2x64 ![0, 1, 2] bcast_S4x2x1_S4x2x64_0_1_2 (addi
      (broadcastInDim S4x2x1 ![0, 1, 2] bcast_S1x2x1_S4x2x1_0_1_2 (muli
        (broadcastInDim S1x2x1 ![] bcast_S_S1x2x1 (constantI S_ 32 256#32)) (broadcastInDim S1x2x1 ![1] bcast_S2_S1x2x1_1 (iotaInDim S2 32 0))))
      (broadcastInDim S4x2x1 ![0, 1, 2] bcast_S4x1x1_S4x2x1_0_1_2 (muli
        (broadcastInDim S4x1x1 ![] bcast_S_S4x1x1 (constantI S_ 32 64#32)) (broadcastInDim S4x1x1 ![0] bcast_S4_S4x1x1_0 (iotaInDim S4 32 0))))))
    (broadcastInDim S4x2x64 ![0, 1, 2] bcast_S1x1x64_S4x2x64_0_1_2 (broadcastInDim S1x1x64 ![2] bcast_S64_S1x1x64_2 (iotaInDim S64 32 0))))
    shapeCasts_S4x2x64_S512

/-- The same as a column of start indices. -/
def starts : IVec S512x1 32 :=
  broadcastInDim S512x1 ![0] bcast_S512_S512x1_0
    (select (cmpi .slt list (broadcastInDim S512 ![] bcast_S_S512 (constantI S_ 32 0#32)))
      (addi list (broadcastInDim S512 ![] bcast_S_S512 (constantI S_ 32 512#32))) list)

theorem starts_val : ∀ j : Fin 512, starts (ix2 j 0) = BitVec.ofNat 32 (chanN j.val) := by decide +kernel

/-- An array rounded to bf16. -/
def narrow {s : Shape} (x : FVec Ideal s .f32) : FVec Ideal s .bf16 := (truncf .bf16 · bitsLt_bf16_f32) x

/-- Over the ideal scalars the rounding is the identity. -/
theorem narrow_val {s : Shape} (x : FVec Ideal s .f32) (i : s.Idx) : narrow x i = x i := rfl

/-- A vector over the channels, as a row in slab order. -/
def vec (D : FVec Ideal S1x512 .f32) : FVec Ideal S1x512 .f32 :=
  shapeCast S1x512 (Host.gather gather_S512_S512x1_S512_n_0_n_n_0_1_1 (shapeCast S512 D shapeCasts_S1x512_S512) starts) shapeCasts_S512_S1x512

/-- The gate's weights, rows and columns in slab order. -/
def square (W : FVec Ideal S1x512x512 .f32) : FVec Ideal S512x512 .bf16 :=
  narrow (Host.gather gather_S512x512_S512x1_S512x512_0_1_n_n_1_1_5121
    (Host.gather gather_S512x512_S512x1_S512x512_1_0_n_n_0_1_1512 (shapeCast S512x512 W shapeCasts_S1x512x512_S512x512) starts) starts)

/-- The output weights of the state-space branch, rows in slab order. -/
def wide (W : FVec Ideal S1x512x1024 .f32) : FVec Ideal S512x1024 .bf16 :=
  narrow (Host.gather gather_S512x1024_S512x1_S512x1024_1_0_n_n_0_1_11024 (shapeCast S512x1024 W shapeCasts_S1x512x1024_S512x1024) starts)

/-- A vector over the channels, at a position of the slabs. -/
theorem vec_val (D : FVec Ideal S1x512 .f32) (z : Fin 512) : vec D (ix2 0 z) = D (ix2 0 (chan z)) := by
  have h : vec D (ix2 0 z) = Host.gather gather_S512_S512x1_S512_n_0_n_n_0_1_1 (shapeCast S512 D shapeCasts_S1x512_S512) starts (ix1 z) := by
    unfold vec
    generalize Host.gather gather_S512_S512x1_S512_n_0_n_n_0_1_1 (shapeCast S512 D shapeCasts_S1x512_S512) starts = N
    pointwise
  rw [h, gather_vec _ _ z (starts_val z)]
  pointwise

/-- The gate's weights at two positions of the slabs. -/
theorem square_val (W : FVec Ideal S1x512x512 .f32) (k z : Fin 512) : square W (ix2 k z) = W (ix3 0 (chan k) (chan z)) := by
  refine (narrow_val _ _).trans ((gather_cols _ _ k z (starts_val z)).trans ((gather_rows _ _ k (chan z) (starts_val k)).trans ?_))
  pointwise

/-- The output weights at a position of the slabs. -/
theorem wide_val (W : FVec Ideal S1x512x1024 .f32) (k : Fin 512) (z : Fin 1024) : wide W (ix2 k z) = W (ix3 0 (chan k) z) := by
  refine (narrow_val _ _).trans ((gather_wide _ _ k z (starts_val k)).trans ?_)
  pointwise

variable (m : (ℓ : Loc nD τ sig) → Buf (Elt Ideal) ℓ) (c : Dev nD)

set_option maxHeartbeats 1000000 in
/-- The feedthrough at the call. -/
theorem entry_d : (V m c main_v25 : FVec Ideal S1x512 .f32) = vec (m ((c : Thread nD τ).loc main_arg6)) := by
  after_reads_simp
  rfl

set_option maxHeartbeats 1000000 in
/-- The gate's weights at the call. -/
theorem entry_gw : (V m c main_v41 : FVec Ideal S512x512 .bf16) = square (m ((c : Thread nD τ).loc main_arg7)) := by
  after_reads_simp
  rfl

set_option maxHeartbeats 1000000 in
/-- The gate's bias at the call. -/
theorem entry_gb : (V m c main_v50 : FVec Ideal S1x512 .f32) = vec (m ((c : Thread nD τ).loc main_arg8)) := by
  after_reads_simp
  rfl

set_option maxHeartbeats 1000000 in
/-- The attention branch's output weights at the call. -/
theorem entry_wa : (V m c main_v52 : FVec Ideal S512x1024 .bf16)
    = narrow (shapeCast S512x1024 (m ((c : Thread nD τ).loc main_arg9)) shapeCasts_S1x512x1024_S512x1024) := by
  after_reads_simp
  rfl

set_option maxHeartbeats 1000000 in
/-- The state-space branch's output weights at the call. -/
theorem entry_ws : (V m c main_v61 : FVec Ideal S512x1024 .bf16) = wide (m ((c : Thread nD τ).loc main_arg10)) := by
  after_reads_simp
  rfl

set_option maxHeartbeats 1000000 in
/-- The output weights at the call. -/
theorem entry_wo : (V m c main_v63 : FVec Ideal S1024x1024 .bf16)
    = narrow (shapeCast S1024x1024 (m ((c : Thread nD τ).loc main_arg11)) shapeCasts_S1x1024x1024_S1024x1024) := by
  after_reads_simp
  rfl

set_option maxHeartbeats 1000000 in
/-- The two scans at the call. -/
theorem entry_scan : (V m c main_v64 : FVec Ideal S2x4x8192x512 .f32)
    = shapeCast S2x4x8192x512 (m ((c : Thread nD τ).loc main_arg3)) shapeCasts_S2x4x32768x128_S2x4x8192x512 := by
  after_reads_simp
  rfl

end Cert.MergeIdeal.Weight

end

end
-- ==== Proof.MergeBody.lean ====
/- What the body of the merge kernel computes from its blocks. -/
module

public import proofs.«01_k».proof.Proof.Gen.MergeIdeal.Value
public import proofs.«01_k».proof.Proof.Dense
public import Idealize.ShloMosaic.Lib.Pipeline.ValueKit

@[expose] public section

set_option maxRecDepth 16384

noncomputable section

namespace Cert.MergeIdeal.Body

open Cert.MergeIdeal Cert.MergeIdeal.Gen Idealize.ShloMosaic Idealize.ShloMosaic.TcCoe Idealize.SL.Sem Cert.Dense

/-- The tanh approximation of the gelu, in the kernel's order. -/
def gelu (x : EReal) : EReal :=
  Ideal.ofBits FTy.f32 0x3F000000#32 * x
    * (1 + Ideal.tanh (Ideal.ofBits FTy.f32 0x3F4C422A#32 * (x + Ideal.ofBits FTy.f32 0x3D372713#32 * (x * x * x))))

/-- Position `j` of slab `q`. -/
def at_ (q : Fin 4) (j : Fin 128) : Fin 512 := ⟨q.val * 128 + j.val, by omega⟩

section body

/-- The feedthrough times the four slabs. -/
theorem pay3_val (v4 : Vec Ideal S1x512 .f32) (v6 v8 v10 v12 : Vec Ideal S1x512x128 .f32) (a : Fin 512) (q : Fin 4) (j : Fin 128) :
    k0_pay3 v4 v6 v8 v10 v12 (ix2 a (at_ q j)) = v4 (ix2 0 (at_ q j)) * (![v6, v8, v10, v12] q) (ix3 0 a j) := by
  unfold at_
  fin_cases q <;> pointwise [k0_pay3]
  · simp only [show ¬ (256 + j.val < 128) by omega, show ¬ (256 + j.val - 128 < 128) by omega,
      show 256 + j.val - 128 - 128 = j.val by omega, show j.val < 128 from j.isLt, dif_pos, dif_neg, not_false_eq_true, Fin.eta]
  · simp only [show ¬ (384 + j.val < 128) by omega, show ¬ (384 + j.val - 128 < 128) by omega, show ¬ (384 + j.val - 128 - 128 < 128) by omega,
      show 384 + j.val - 128 - 128 - 128 = j.val by omega, dif_neg, not_false_eq_true, Fin.eta]

/-- The gelu of the sum of the three streams. -/
theorem pay7_val (v16 : FVec Ideal S512x512 .f32) (v18 v20 v22 : FVec Ideal S512x128 .f32) (v23 v27 v29 v31 v33 : Vec Ideal S1x1x512x128 .f32)
    (a : Fin 512) (q : Fin 4) (j : Fin 128) :
    k0_pay7 v16 v18 v20 v22 v23 v27 v29 v31 v33 (ix2 a (at_ q j))
      = gelu (v16 (ix2 a (at_ q j)) + (![v18 (ix2 a j), v20 (ix2 a j), v22 (ix2 a j), v23 (ix4 0 0 a j)] q)
        + (![v27, v29, v31, v33] q) (ix4 0 0 a j)) := by
  unfold at_ gelu
  fin_cases q <;> pointwise [k0_pay7]
  · simp only [show ¬ (256 + j.val < 128) by omega, show ¬ (256 + j.val - 128 < 128) by omega,
      show 256 + j.val - 128 - 128 = j.val by omega, show j.val < 128 from j.isLt, dif_pos, dif_neg, not_false_eq_true, Fin.eta]
  · simp only [show ¬ (384 + j.val < 128) by omega, show ¬ (384 + j.val - 128 < 128) by omega, show ¬ (384 + j.val - 128 - 128 < 128) by omega,
      show 384 + j.val - 128 - 128 - 128 = j.val by omega, dif_neg, not_false_eq_true, Fin.eta]

/-- The gate before the logistic. -/
theorem pay8_val (v16 : FVec Ideal S512x512 .f32) (v18 v20 v22 : FVec Ideal S512x128 .f32) (v23 v27 v29 v31 v33 : Vec Ideal S1x1x512x128 .f32)
    (v51 : Vec Ideal S512x512 .bf16) (v54 : Vec Ideal S1x512 .f32) (a p : Fin 512) :
    k0_pay8 v16 v18 v20 v22 v23 v27 v29 v31 v33 v51 v54 (ix2 a p)
      = (∑ k, k0_pay7 v16 v18 v20 v22 v23 v27 v29 v31 v33 (ix2 a k) * v51 (ix2 k p)) + v54 (ix2 0 p) := by
  pointwise [k0_pay8]

/-- The attention branch through its output weights. -/
theorem pay2_val (v0 : Vec Ideal S512x512 .bf16) (v1 : Vec Ideal S512x1024 .bf16) (a : Fin 512) (j : Fin 1024) :
    k0_pay2 v0 v1 (ix2 a j) = ∑ k, v0 (ix2 a k) * v1 (ix2 k j) := by
  pointwise [k0_pay2]

/-- The gated branches through the output weights, added to the hidden state. -/
theorem pay1_val (v3 : FVec Ideal S512x1024 .f32) (v49 v57 : FVec Ideal S512x512 .f32) (v67 v70 v73 : Vec Ideal S512x1024 .bf16)
    (v77 : Vec Ideal S512x1024 .f32) (v79 : Vec Ideal S1024x1024 .bf16) (a : Fin 512) (d : Fin 1024) :
    k0_pay1 v3 v49 v57 v67 v70 v73 v77 v79 (ix2 a d) = v77 (ix2 a d) + ∑ j, (v70 (ix2 a j) * v3 (ix2 a j)
      + v73 (ix2 a j) * ∑ p, v49 (ix2 a p) * logi (v57 (ix2 a p)) * v67 (ix2 p j)) * v79 (ix2 j d) := by
  pointwise [k0_pay1]
  simp only [logi, zero_sub]

/-- The slab of a position. -/
def slab (p : Fin 512) : Fin 4 := ⟨p.val / 128, by omega⟩

/-- The lane of a position. -/
def lane (p : Fin 512) : Fin 128 := ⟨p.val % 128, by omega⟩

theorem at_slab (p : Fin 512) : at_ (slab p) (lane p) = p := Fin.ext (by show p.val / 128 * 128 + p.val % 128 = p.val; omega)

variable (x0 : Vec Ideal S512x1024 .f32) (x1 : Vec Ideal S512x512 .bf16) (x2 : Vec Ideal S4x512x128 .f32) (x3 x4 : Vec Ideal S1x4x512x128 .f32)
  (x5 x6 : Vec Ideal S512x1024 .bf16) (x7 : Vec Ideal S1x512 .f32) (x8 : Vec Ideal S512x512 .bf16) (x9 : Vec Ideal S1x512 .f32)
  (x10 x11 : Vec Ideal S512x1024 .bf16) (x12 : Vec Ideal S1024x1024 .bf16)

/-- The state-space branch of a block's row `a` at position `p` of the slabs, after the gelu. -/
def act (a p : Fin 512) : EReal :=
  gelu (x7 (ix2 0 p) * x2 (ix3 (slab p) a (lane p)) + x3 (ix4 0 (slab p) a (lane p)) + x4 (ix4 0 (slab p) a (lane p)))

/-- The same after its gate. -/
def glu (a p : Fin 512) : EReal :=
  act x2 x3 x4 x7 a p * logi ((∑ k, act x2 x3 x4 x7 a k * x8 (ix2 k p)) + x9 (ix2 0 p))

theorem pay9_val (a : Fin 512) (q : Fin 4) (j : Fin 128) :
    k0_pay9 x0 x1 x2 x3 x4 x5 x6 x7 x8 x9 x10 x11 x12 (ix2 a (at_ q j)) = x7 (ix2 0 (at_ q j)) * x2 (ix3 q a j) := by
  refine (pay3_val (View.ld x7 r0_2) (View.ld x2 r0_3) (View.ld x2 r0_4) (View.ld x2 r0_5) (View.ld x2 r0_6) a q j).trans ?_
  fin_cases q <;> pointwise

theorem pay10_val (a : Fin 512) (j : Fin 128) : k0_pay10 x0 x1 x2 x3 x4 x5 x6 x7 x8 x9 x10 x11 x12 (ix2 a j) = x3 (ix4 0 0 a j) := by
  show k0_pay4 (View.ld x3 r0_7) (ix2 a j) = _
  pointwise [k0_pay4]

theorem pay11_val (a : Fin 512) (j : Fin 128) : k0_pay11 x0 x1 x2 x3 x4 x5 x6 x7 x8 x9 x10 x11 x12 (ix2 a j) = x3 (ix4 0 1 a j) := by
  show k0_pay5 (View.ld x3 r0_8) (ix2 a j) = _
  pointwise [k0_pay5]

theorem pay12_val (a : Fin 512) (j : Fin 128) : k0_pay12 x0 x1 x2 x3 x4 x5 x6 x7 x8 x9 x10 x11 x12 (ix2 a j) = x3 (ix4 0 2 a j) := by
  show k0_pay6 (View.ld x3 r0_9) (ix2 a j) = _
  pointwise [k0_pay6]

/-- The gelu's array is `act`. -/
theorem act_val (a p : Fin 512) :
    k0_pay7 (k0_pay9 x0 x1 x2 x3 x4 x5 x6 x7 x8 x9 x10 x11 x12) (k0_pay10 x0 x1 x2 x3 x4 x5 x6 x7 x8 x9 x10 x11 x12) (k0_pay11 x0 x1 x2 x3 x4 x5 x6 x7 x8 x9 x10 x11 x12) (k0_pay12 x0 x1 x2 x3 x4 x5 x6 x7 x8 x9 x10 x11 x12) (View.ld x3 r0_10) (View.ld x4 r0_7) (View.ld x4 r0_8) (View.ld x4 r0_9)
      (View.ld x4 r0_10) (ix2 a p) = act x2 x3 x4 x7 a p := by
  obtain ⟨q, j, hq⟩ : ∃ q j, p = at_ q j := ⟨slab p, lane p, (at_slab p).symm⟩
  have h1 : slab p = q := by subst hq; exact Fin.ext (show (q.val * 128 + j.val) / 128 = q.val by omega)
  have h2 : lane p = j := by subst hq; exact Fin.ext (show (q.val * 128 + j.val) % 128 = j.val by omega)
  unfold act
  rw [h1, h2, hq, pay7_val, pay9_val, pay10_val, pay11_val, pay12_val]
  congr 2
  · congr 1
    fin_cases q
    · rfl
    · rfl
    · rfl
    · show View.ld x3 r0_10 (ix4 0 0 a j) = x3 (ix4 0 3 a j)
      pointwise
  · fin_cases q
    · show View.ld x4 r0_7 (ix4 0 0 a j) = x4 (ix4 0 0 a j)
      pointwise
    · show View.ld x4 r0_8 (ix4 0 0 a j) = x4 (ix4 0 1 a j)
      pointwise
    · show View.ld x4 r0_9 (ix4 0 0 a j) = x4 (ix4 0 2 a j)
      pointwise
    · show View.ld x4 r0_10 (ix4 0 0 a j) = x4 (ix4 0 3 a j)
      pointwise

/-- The block of the result. -/
theorem out13 (a : Fin 512) (d : Fin 1024) :
    out0_13 x0 x1 x2 x3 x4 x5 x6 x7 x8 x9 x10 x11 x12 (ix2 a d) = x0 (ix2 a d) + ∑ j, (x5 (ix2 a j) * (∑ k, x1 (ix2 a k) * x10 (ix2 k j))
      + x6 (ix2 a j) * ∑ p, glu x2 x3 x4 x7 x8 x9 a p * x11 (ix2 p j)) * x12 (ix2 j d) := by
  frame_out
  rw [pay1_val]
  simp only [pay2_val, pay8_val, act_val, glu]

end body

end Cert.MergeIdeal.Body

end

end
-- ==== Proof.MergeBlock.lean ====
/- The array the merge kernel leaves. -/
module

public import proofs.«01_k».proof.Proof.Gen.MergeIdeal.Value
public import proofs.«01_k».proof.Proof.MergeWeight
public import proofs.«01_k».proof.Proof.MergeBody
public import Idealize.ShloMosaic.Lib.Pipeline.ValueKit

@[expose] public section

set_option maxRecDepth 16384

noncomputable section

namespace Cert.MergeIdeal.Block

open Cert.MergeIdeal Cert.MergeIdeal.Gen Idealize.ShloMosaic Idealize.ShloMosaic.TcCoe Idealize.SL.Sem Cert.Dense Cert.Slab
open Idealize.ShloMosaic.Pipeline (Dat)
open Cert.MergeIdeal.Weight (vec square wide narrow)
open Cert.MergeIdeal.Body (gelu slab lane out13)

section formula
variable (H : FVec Ideal S8192x4096 .f32) (YA : FVec Ideal S8192x2048 .bf16) (S : FVec Ideal S4x8192x512 .f32)
  (Y : FVec Ideal S2x4x32768x128 .f32) (GA GS : FVec Ideal S8192x4096 .bf16) (D : FVec Ideal S1x512 .f32) (GW : FVec Ideal S1x512x512 .f32)
  (GB : FVec Ideal S1x512 .f32) (WA WS : FVec Ideal S1x512x1024 .f32) (WO : FVec Ideal S1x1024x1024 .f32)

/-- The state-space branch of batch `b`'s token `t` at position `p` of the slabs, after the gelu. -/
def act (b : Fin 4) (t : Fin 8192) (p : Fin 512) : EReal :=
  gelu (D (ix2 0 (chan p)) * S (ix3 (slab p) t (⟨b.val * 128 + (lane p).val, by omega⟩ : Fin 512))
    + Y (ix4 0 (slab p) (⟨t.val * 4 + b.val, by omega⟩ : Fin 32768) (lane p))
    + Y (ix4 1 (slab p) (⟨t.val * 4 + b.val, by omega⟩ : Fin 32768) (lane p)))

/-- The same after its gate. -/
def glu (b : Fin 4) (t : Fin 8192) (p : Fin 512) : EReal :=
  act S Y D b t p * logi ((∑ k, act S Y D b t k * GW (ix3 0 (chan k) (chan p))) + GB (ix2 0 (chan p)))

/-- The two branches of batch `b`'s token `t`, gated and added. -/
def mix (b : Fin 4) (t : Fin 8192) (j : Fin 1024) : EReal :=
  GA (ix2 t (⟨b.val * 1024 + j.val, by omega⟩ : Fin 4096))
      * (∑ k : Fin 512, YA (ix2 t (⟨b.val * 512 + k.val, by omega⟩ : Fin 2048)) * WA (ix3 0 k j))
    + GS (ix2 t (⟨b.val * 1024 + j.val, by omega⟩ : Fin 4096)) * ∑ p, glu S Y D GW GB b t p * WS (ix3 0 (chan p) j)

/-- Entry `d` of the result for batch `b`'s token `t`. -/
def at_ (b : Fin 4) (t : Fin 8192) (d : Fin 1024) : EReal :=
  H (ix2 t (⟨b.val * 1024 + d.val, by omega⟩ : Fin 4096)) + ∑ j, mix YA S Y GA GS D GW GB WA WS b t j * WO (ix3 0 j d)

/-- The result as a token-major array. -/
def OUT : FVec Ideal S8192x4096 .f32 := fun i =>
  at_ H YA S Y GA GS D GW GB WA WS WO ⟨(i 1).val / 1024, by have : (i 1).val < 4096 := (i 1).isLt; omega⟩ (i 0) ⟨(i 1).val % 1024, by omega⟩

end formula

/-- The scans with a token's batches side by side. -/
theorem scan_val (Y : FVec Ideal S2x4x32768x128 .f32) (e : Fin 2) (q : Fin 4) (r : Fin 8192) (b : Fin 4) (j : Fin 128) :
    shapeCast S2x4x8192x512 Y shapeCasts_S2x4x32768x128_S2x4x8192x512 (ix4 e q r (⟨b.val * 128 + j.val, by omega⟩ : Fin 512))
      = Y (ix4 e q (⟨r.val * 4 + b.val, by omega⟩ : Fin 32768) j) := by
  pointwise
  simp only [show (b.val * 128 + j.val) / 128 = b.val by omega]

/-- The attention branch's output weights, their unit axis dropped. -/
theorem plain_val (W : FVec Ideal S1x512x1024 .f32) (k : Fin 512) (j : Fin 1024) :
    narrow (shapeCast S512x1024 W shapeCasts_S1x512x1024_S512x1024) (ix2 k j) = W (ix3 0 k j) := by
  pointwise [narrow]

/-- The output weights, their unit axis dropped. -/
theorem plain_val' (W : FVec Ideal S1x1024x1024 .f32) (j d : Fin 1024) :
    narrow (shapeCast S1024x1024 W shapeCasts_S1x1024x1024_S1024x1024) (ix2 j d) = W (ix3 0 j d) := by
  pointwise [narrow]

variable (m : (ℓ : Loc nD τ sig) → Buf (Elt Ideal) ℓ)

/-- The block index of every window at grid point `t`. -/
theorem idx_val : ∀ t : Fin cfg0.N, win0_0.index t = ![t.val % 16, t.val / 16] ∧ win0_1.index t = ![t.val % 16, t.val / 16]
    ∧ win0_2.index t = ![0, t.val % 16, t.val / 16] ∧ win0_3.index t = ![0, 0, t.val % 16, t.val / 16] ∧ win0_4.index t = ![1, 0, t.val % 16, t.val / 16]
    ∧ win0_5.index t = ![t.val % 16, t.val / 16] ∧ win0_6.index t = ![t.val % 16, t.val / 16] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![t.val % 16, t.val / 16] ∧ t.val / 16 < 4 :=
  (by decide +kernel : ∀ t : Fin grid0.N, win0_0.index t = ![t.val % 16, t.val / 16] ∧ win0_1.index t = ![t.val % 16, t.val / 16]
    ∧ win0_2.index t = ![0, t.val % 16, t.val / 16] ∧ win0_3.index t = ![0, 0, t.val % 16, t.val / 16] ∧ win0_4.index t = ![1, 0, t.val % 16, t.val / 16]
    ∧ win0_5.index t = ![t.val % 16, t.val / 16] ∧ win0_6.index t = ![t.val % 16, t.val / 16] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![t.val % 16, t.val / 16] ∧ t.val / 16 < 4)

/-- Grid point `t`'s batch. -/
theorem batch (t : Fin cfg0.N) : ∃ b : Fin 4, b.val = t.val / 16 :=
  ⟨⟨t.val / 16, (idx_val t).2.2.2.2.2.2.2.2.2.2.2.2.2.2⟩, rfl⟩

section blocks
variable (c : Dev nD) (t : Fin cfg0.N) (b : Fin 4) (hb : b.val = t.val / 16) (a : Fin 512) (r : Fin 8192) (hr : r.val = t.val % 16 * 512 + a.val)
include hb hr

/-- The block of the hidden state: 512 tokens of one batch. -/
theorem blk0 (k : Fin 1024) : iblk m c 0 t (ix2 a k) = (m ((c : Thread nD τ).loc main_arg0)) (ix2 r (⟨b.val * 1024 + k.val, by omega⟩ : Fin 4096)) := by
  blk_point [iblk, V, idx_val t]

/-- The block of the attention's output. -/
theorem blk1 (k : Fin 512) : iblk m c 1 t (ix2 a k) = (m ((c : Thread nD τ).loc main_arg1)) (ix2 r (⟨b.val * 512 + k.val, by omega⟩ : Fin 2048)) := by
  blk_point [iblk, V, idx_val t]

/-- The block of the state-space input. -/
theorem blk2 (q : Fin 4) (j : Fin 128) : iblk m c 2 t (ix3 q a j) = (m ((c : Thread nD τ).loc main_arg2)) (ix3 q r (⟨b.val * 128 + j.val, by omega⟩ : Fin 512)) := by
  blk_point [iblk, V, idx_val t]

/-- The block of the forward scan. -/
theorem blk3 (q : Fin 4) (j : Fin 128) :
    iblk m c 3 t (ix4 0 q a j) = (m ((c : Thread nD τ).loc main_arg3)) (ix4 0 q (⟨r.val * 4 + b.val, by omega⟩ : Fin 32768) j) := by
  have he : ((cfg0.win 3).blk t).view.emb (ix4 0 q a j) = ix4 0 q r (⟨b.val * 128 + j.val, by omega⟩ : Fin 512) := by blk_ext [idx_val t]
  show V m c main_v64 (((cfg0.win 3).blk t).view.emb (ix4 0 q a j)) = _
  rw [he, Cert.MergeIdeal.Weight.entry_scan]
  exact scan_val _ 0 q r b j

/-- The block of the backward scan. -/
theorem blk4 (q : Fin 4) (j : Fin 128) :
    iblk m c 4 t (ix4 0 q a j) = (m ((c : Thread nD τ).loc main_arg3)) (ix4 1 q (⟨r.val * 4 + b.val, by omega⟩ : Fin 32768) j) := by
  have he : ((cfg0.win 4).blk t).view.emb (ix4 0 q a j) = ix4 1 q r (⟨b.val * 128 + j.val, by omega⟩ : Fin 512) := by blk_ext [idx_val t]
  show V m c main_v64 (((cfg0.win 4).blk t).view.emb (ix4 0 q a j)) = _
  rw [he, Cert.MergeIdeal.Weight.entry_scan]
  exact scan_val _ 1 q r b j

/-- The block of the attention branch's gates. -/
theorem blk5 (k : Fin 1024) : iblk m c 5 t (ix2 a k) = (m ((c : Thread nD τ).loc main_arg4)) (ix2 r (⟨b.val * 1024 + k.val, by omega⟩ : Fin 4096)) := by
  blk_point [iblk, V, idx_val t]

/-- The block of the state-space branch's gates. -/
theorem blk6 (k : Fin 1024) : iblk m c 6 t (ix2 a k) = (m ((c : Thread nD τ).loc main_arg5)) (ix2 r (⟨b.val * 1024 + k.val, by omega⟩ : Fin 4096)) := by
  blk_point [iblk, V, idx_val t]

end blocks

section weights
variable (c : Dev nD) (t : Fin cfg0.N)

/-- The block of the feedthrough, in slab order. -/
theorem blk7 (p : Fin 512) : iblk m c 7 t (ix2 0 p) = (m ((c : Thread nD τ).loc main_arg6)) (ix2 0 (chan p)) := by
  have he : ((cfg0.win 7).blk t).view.emb (ix2 0 p) = ix2 0 p := by blk_ext [idx_val t]
  show V m c main_v25 (((cfg0.win 7).blk t).view.emb (ix2 0 p)) = _
  rw [he, Cert.MergeIdeal.Weight.entry_d]
  exact Cert.MergeIdeal.Weight.vec_val _ p

/-- The block of the gate's weights, in slab order. -/
theorem blk8 (k p : Fin 512) : iblk m c 8 t (ix2 k p) = (m ((c : Thread nD τ).loc main_arg7)) (ix3 0 (chan k) (chan p)) := by
  have he : ((cfg0.win 8).blk t).view.emb (ix2 k p) = ix2 k p := by blk_ext [idx_val t]
  show V m c main_v41 (((cfg0.win 8).blk t).view.emb (ix2 k p)) = _
  rw [he, Cert.MergeIdeal.Weight.entry_gw]
  exact Cert.MergeIdeal.Weight.square_val _ k p

/-- The block of the gate's bias, in slab order. -/
theorem blk9 (p : Fin 512) : iblk m c 9 t (ix2 0 p) = (m ((c : Thread nD τ).loc main_arg8)) (ix2 0 (chan p)) := by
  have he : ((cfg0.win 9).blk t).view.emb (ix2 0 p) = ix2 0 p := by blk_ext [idx_val t]
  show V m c main_v50 (((cfg0.win 9).blk t).view.emb (ix2 0 p)) = _
  rw [he, Cert.MergeIdeal.Weight.entry_gb]
  exact Cert.MergeIdeal.Weight.vec_val _ p

/-- The block of the attention branch's output weights. -/
theorem blk10 (k : Fin 512) (j : Fin 1024) : iblk m c 10 t (ix2 k j) = (m ((c : Thread nD τ).loc main_arg9)) (ix3 0 k j) := by
  have he : ((cfg0.win 10).blk t).view.emb (ix2 k j) = ix2 k j := by blk_ext [idx_val t]
  show V m c main_v52 (((cfg0.win 10).blk t).view.emb (ix2 k j)) = _
  rw [he, Cert.MergeIdeal.Weight.entry_wa]
  exact plain_val _ k j

/-- The block of the state-space branch's output weights, in slab order. -/
theorem blk11 (p : Fin 512) (j : Fin 1024) : iblk m c 11 t (ix2 p j) = (m ((c : Thread nD τ).loc main_arg10)) (ix3 0 (chan p) j) := by
  have he : ((cfg0.win 11).blk t).view.emb (ix2 p j) = ix2 p j := by blk_ext [idx_val t]
  show V m c main_v61 (((cfg0.win 11).blk t).view.emb (ix2 p j)) = _
  rw [he, Cert.MergeIdeal.Weight.entry_ws]
  exact Cert.MergeIdeal.Weight.wide_val _ p j

/-- The block of the output weights. -/
theorem blk12 (j d : Fin 1024) : iblk m c 12 t (ix2 j d) = (m ((c : Thread nD τ).loc main_arg11)) (ix3 0 j d) := by
  have he : ((cfg0.win 12).blk t).view.emb (ix2 j d) = ix2 j d := by blk_ext [idx_val t]
  show V m c main_v63 (((cfg0.win 12).blk t).view.emb (ix2 j d)) = _
  rw [he, Cert.MergeIdeal.Weight.entry_wo]
  exact plain_val' _ j d

end weights

set_option maxHeartbeats 1000000 in
/-- What grid point `t` leaves at entry `y` of its output block. -/
theorem point (c : Dev nD) (t : Fin cfg0.N) (y : S512x1024.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = OUT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (((cfg0.win 13).blk t).view.emb y) := by
  obtain ⟨a, d, rfl⟩ : ∃ (a : Fin 512) (d : Fin 1024), y = ix2 a d := ⟨y 0, y 1, by funext e; fin_cases e <;> rfl⟩
  obtain ⟨b, hb⟩ := batch t
  obtain ⟨r, hr⟩ : ∃ r : Fin 8192, r.val = t.val % 16 * 512 + a.val := ⟨⟨t.val % 16 * 512 + a.val, by omega⟩, rfl⟩
  have he : ((cfg0.win 13).blk t).view.emb (ix2 a d) = ix2 r (⟨b.val * 1024 + d.val, by omega⟩ : Fin 4096) := by
    blk_ext [idx_val t]
  have h1 : (⟨(b.val * 1024 + d.val) / 1024, by omega⟩ : Fin 4) = b := Fin.ext (by dsimp only; omega)
  have h2 : (⟨(b.val * 1024 + d.val) % 1024, by omega⟩ : Fin 1024) = d := Fin.ext (by dsimp only; omega)
  have hA : ∀ p, Cert.MergeIdeal.Body.act (iblk m c 2 t) (iblk m c 3 t) (iblk m c 4 t) (iblk m c 7 t) a p
      = act (m ((c : Thread nD τ).loc main_arg2)) (m ((c : Thread nD τ).loc main_arg3)) (m ((c : Thread nD τ).loc main_arg6)) b r p := fun p => by
    unfold Cert.MergeIdeal.Body.act act
    rw [blk2 m c t b hb a r hr, blk3 m c t b hb a r hr, blk4 m c t b hb a r hr, blk7]
  have hG : ∀ p, Cert.MergeIdeal.Body.glu (iblk m c 2 t) (iblk m c 3 t) (iblk m c 4 t) (iblk m c 7 t) (iblk m c 8 t) (iblk m c 9 t) a p
      = glu (m ((c : Thread nD τ).loc main_arg2)) (m ((c : Thread nD τ).loc main_arg3)) (m ((c : Thread nD τ).loc main_arg6)) (m ((c : Thread nD τ).loc main_arg7)) (m ((c : Thread nD τ).loc main_arg8)) b r p := fun p => by
    unfold Cert.MergeIdeal.Body.glu glu
    simp only [hA, blk8, blk9]
  rw [he, out13]
  show _ = at_ _ _ _ _ _ _ _ _ _ _ _ _ ⟨(b.val * 1024 + d.val) / 1024, _⟩ r ⟨(b.val * 1024 + d.val) % 1024, _⟩
  rw [h1, h2]
  unfold at_ mix
  simp only [hG, blk0 m c t b hb a r hr, blk1 m c t b hb a r hr, blk5 m c t b hb a r hr, blk6 m c t b hb a r hr, blk10, blk11, blk12]

/-- The array after the run. -/
theorem final (c : Dev nD) : (dats m 0 c).arrAt 13 (cfgs 0).N
    = OUT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (dats m 0 c).arrAt_eq_of_covers 13 _ (by decide +kernel) fun t _ y => ?_
  blk_simp
  rw [after0_13]
  exact point m c t y

end Cert.MergeIdeal.Block

end

end
-- ==== Proof.MergeClaim.lean ====
/- The value claim of the merge: the array the kernel leaves is the reference's. -/
module

public import proofs.«01_k».proof.Defs
public import proofs.«01_k».proof.Proof.MergeBlock
public import proofs.«01_k».proof.Proof.Gen.MergeRefIdeal.Run
public import proofs.«01_k».proof.Proof.Gen.MergeRefIdeal.Read

@[expose] public section

set_option maxRecDepth 16384

noncomputable section

namespace Cert.MergeClaim

open Idealize.ShloMosaic Idealize.SL.Sem Cert.MergeRefIdeal.Read Cert.Dense Cert.Slab
open Cert.MergeIdeal.Block (OUT at_ mix act glu)
open Cert.MergeIdeal.Body (gelu slab lane)

variable (H : FVec Ideal Cert.MergeRefIdeal.S8192x4096 .f32) (YA : FVec Ideal Cert.MergeRefIdeal.S8192x2048 .bf16) (S : FVec Ideal Cert.MergeRefIdeal.S4x8192x512 .f32)
  (Y : FVec Ideal Cert.MergeRefIdeal.S2x4x32768x128 .f32) (GA GS : FVec Ideal Cert.MergeRefIdeal.S8192x4096 .bf16)
  (D : FVec Ideal Cert.MergeRefIdeal.S1x512 .f32) (GW : FVec Ideal Cert.MergeRefIdeal.S1x512x512 .f32) (GB : FVec Ideal Cert.MergeRefIdeal.S1x512 .f32)
  (WA WS : FVec Ideal Cert.MergeRefIdeal.S1x512x1024 .f32) (WO : FVec Ideal Cert.MergeRefIdeal.S1x1024x1024 .f32)

/-- A sum over the channels, taken in slab order. -/
theorem sum_chan (f : Fin 512 → EReal) : ∑ n, f n = ∑ p, f (chan p) := (Equiv.sum_comp equiv f).symm

/-- The reference's sum of the three streams at the channel of a position of the slabs. -/
theorem sum_val (b : Fin 4) (t : Fin 8192) (p : Fin 512) :
    val_main_v25 (F := Ideal) S Y D (ix3 b t (chan p))
      = D (ix2 0 (chan p)) * S (ix3 (slab p) t (⟨b.val * 128 + (lane p).val, by omega⟩ : Fin 512))
        + Y (ix4 0 (slab p) (⟨t.val * 4 + b.val, by omega⟩ : Fin 32768) (lane p))
        + Y (ix4 1 (slab p) (⟨t.val * 4 + b.val, by omega⟩ : Fin 32768) (lane p)) := by
  obtain ⟨q, h, l, hp⟩ : ∃ (q : Fin 4) (h : Fin 2) (l : Fin 64), p = ⟨q.val * 128 + (h.val * 64 + l.val), by omega⟩ :=
    ⟨⟨p.val / 128, by omega⟩, ⟨p.val % 128 / 64, by omega⟩, ⟨p.val % 64, by omega⟩, Fin.ext (by dsimp only; omega)⟩
  have h1 : slab p = q := by subst hp; exact Fin.ext (show (q.val * 128 + (h.val * 64 + l.val)) / 128 = q.val by omega)
  have h2 : lane p = ⟨h.val * 64 + l.val, by omega⟩ := by
    subst hp; exact Fin.ext (show (q.val * 128 + (h.val * 64 + l.val)) % 128 = h.val * 64 + l.val by omega)
  have h3 : chan p = ⟨h.val * 256 + (q.val * 64 + l.val), by omega⟩ := by
    subst hp
    exact Fin.ext (show chanN (q.val * 128 + (h.val * 64 + l.val)) = h.val * 256 + (q.val * 64 + l.val) by unfold chanN; omega)
  simp only [h1, h2, h3]
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25]
  simp only [Nat.add_assoc]

/-- The reference's gelu, its factors in the kernel's order. -/
theorem gelu_val (b : Fin 4) (t : Fin 8192) (n : Fin 512) :
    val_main_v38 (F := Ideal) S Y D (ix3 b t n) = gelu (val_main_v25 (F := Ideal) S Y D (ix3 b t n)) := by
  generalize hN : val_main_v25 (F := Ideal) S Y D = N
  unfold gelu
  pointwise [val_main_v26, val_main_v27, val_main_cst, val_main_v28, val_main_v29, val_main_v30, val_main_cst_0, val_main_v31, val_main_v32, val_main_v33, val_main_cst_1, val_main_v34, val_main_v35, val_main_cst_2, val_main_v36, val_main_v37, val_main_v38]
  simp only [hN, mul_left_comm, mul_assoc]

/-- The reference's state-space branch after the gelu. -/
theorem act_val (b : Fin 4) (t : Fin 8192) (p : Fin 512) :
    val_main_v38 (F := Ideal) S Y D (ix3 b t (chan p)) = act S Y D b t p := by
  rw [gelu_val, sum_val]
  rfl

/-- The reference's state-space branch after its gate, over any activation. -/
theorem gate_val (b : Fin 4) (t : Fin 8192) (n : Fin 512) :
    val_main_v51 (F := Ideal) S Y D GW GB (ix3 b t n) = val_main_v38 (F := Ideal) S Y D (ix3 b t n)
      * logi ((∑ k, val_main_v38 (F := Ideal) S Y D (ix3 b t k) * GW (ix3 0 k n)) + GB (ix2 0 n)) := by
  generalize hN : val_main_v38 (F := Ideal) S Y D = N
  unfold logi
  pointwise [val_main_v39, val_main_v40, val_main_v41, val_main_v42, val_main_v43, val_main_v44, val_main_v45, val_main_v46, val_main_cst_3, val_main_v47, val_main_v48, val_main_cst_4, val_main_v49, val_main_v50, val_main_v51]
  simp only [hN]

/-- The reference's state-space branch after its gate. -/
theorem glu_val (b : Fin 4) (t : Fin 8192) (p : Fin 512) :
    val_main_v51 (F := Ideal) S Y D GW GB (ix3 b t (chan p)) = glu S Y D GW GB b t p := by
  rw [gate_val, sum_chan]
  simp only [act_val, glu]

/-- The reference's two branches, gated and added. -/
theorem mix_val (b : Fin 4) (t : Fin 8192) (j : Fin 1024) :
    val_main_v62 (F := Ideal) YA S Y GA GS D GW GB WA WS (ix3 b t j) = mix YA S Y GA GS D GW GB WA WS b t j := by
  have hg := fun p => glu_val S Y D GW GB b t p
  have hs := sum_chan (fun n => val_main_v51 (F := Ideal) S Y D GW GB (ix3 b t n) * WS (ix3 0 n j))
  simp only [hg] at hs
  unfold mix
  rw [← hs]
  clear hs hg
  generalize hN : val_main_v51 (F := Ideal) S Y D GW GB = N
  pointwise [val_main_v2, val_main_v3, val_main_v4, val_main_v5, val_main_v6, val_main_v52, val_main_v53, val_main_v54, val_main_v55, val_main_v56, val_main_v57, val_main_v58, val_main_v59, val_main_v60, val_main_v61, val_main_v62]
  simp only [hN]

/-- The reference's array is the formula. -/
theorem ref_eq : val_main_v67 (F := Ideal) H YA S Y GA GS D GW GB WA WS WO = OUT H YA S Y GA GS D GW GB WA WS WO := by
  funext i
  obtain ⟨t, b, d, rfl⟩ : ∃ (t : Fin 8192) (b : Fin 4) (d : Fin 1024), i = ix2 t (⟨b.val * 1024 + d.val, by omega⟩ : Fin 4096) := by
    have h : (i 1).val < 4096 := (i 1).isLt
    refine ⟨i 0, ⟨(i 1).val / 1024, by omega⟩, ⟨(i 1).val % 1024, by omega⟩, ?_⟩
    funext e; fin_cases e
    · rfl
    · exact Fin.ext (show (i 1).val = (i 1).val / 1024 * 1024 + (i 1).val % 1024 by omega)
  have h1 : (⟨(b.val * 1024 + d.val) / 1024, by omega⟩ : Fin 4) = b := Fin.ext (by dsimp only; omega)
  have h2 : (⟨(b.val * 1024 + d.val) % 1024, by omega⟩ : Fin 1024) = d := Fin.ext (by dsimp only; omega)
  show _ = at_ _ _ _ _ _ _ _ _ _ _ _ _ ⟨(b.val * 1024 + d.val) / 1024, _⟩ t ⟨(b.val * 1024 + d.val) % 1024, _⟩
  rw [h1, h2]
  unfold at_
  simp only [← mix_val]
  generalize hN : val_main_v62 (F := Ideal) YA S Y GA GS D GW GB WA WS = N
  pointwise [val_main_v0, val_main_v1, val_main_v63, val_main_v64, val_main_v65, val_main_v66, val_main_v67]
  simp only [hN]

/-- The reference ends with its arguments unchanged and every counter at zero. -/
theorem ref_frame : Cert.quiescent_MergeRefIdeal (hMergeRefIdeal := Cert.MergeRefIdeal.Gen.facts) := fun m g _ =>
  (θ_run Cert.MergeRefIdeal.defs _ _).mono (fun r h => ⟨fun c => (h c).2, sem_eq_zero_of_no_sems (by decide) r.2⟩)
    (Cert.MergeRefIdeal.Value.run (F := Ideal) m g)

/-- The kernel and the reference, run from the same arguments, leave the same array. -/
theorem algebraic : Cert.algebraic_MergeIdeal_MergeRefIdeal (hMergeIdeal := Cert.MergeIdeal.Gen.facts)
    (hMergeRefIdeal := Cert.MergeRefIdeal.Gen.facts) := by
  intro m g m' g' hp ha
  refine ⟨fun c => OUT (m ((c.tc : Thread Cert.MergeIdeal.nD Cert.MergeIdeal.τ).loc Cert.MergeIdeal.main_arg0))
      (m ((c.tc : Thread Cert.MergeIdeal.nD Cert.MergeIdeal.τ).loc Cert.MergeIdeal.main_arg1))
      (m ((c.tc : Thread Cert.MergeIdeal.nD Cert.MergeIdeal.τ).loc Cert.MergeIdeal.main_arg2))
      (m ((c.tc : Thread Cert.MergeIdeal.nD Cert.MergeIdeal.τ).loc Cert.MergeIdeal.main_arg3))
      (m ((c.tc : Thread Cert.MergeIdeal.nD Cert.MergeIdeal.τ).loc Cert.MergeIdeal.main_arg4))
      (m ((c.tc : Thread Cert.MergeIdeal.nD Cert.MergeIdeal.τ).loc Cert.MergeIdeal.main_arg5))
      (m ((c.tc : Thread Cert.MergeIdeal.nD Cert.MergeIdeal.τ).loc Cert.MergeIdeal.main_arg6))
      (m ((c.tc : Thread Cert.MergeIdeal.nD Cert.MergeIdeal.τ).loc Cert.MergeIdeal.main_arg7))
      (m ((c.tc : Thread Cert.MergeIdeal.nD Cert.MergeIdeal.τ).loc Cert.MergeIdeal.main_arg8))
      (m ((c.tc : Thread Cert.MergeIdeal.nD Cert.MergeIdeal.τ).loc Cert.MergeIdeal.main_arg9))
      (m ((c.tc : Thread Cert.MergeIdeal.nD Cert.MergeIdeal.τ).loc Cert.MergeIdeal.main_arg10))
      (m ((c.tc : Thread Cert.MergeIdeal.nD Cert.MergeIdeal.τ).loc Cert.MergeIdeal.main_arg11)), ?_, ?_⟩
  · refine (θ_run _ _ _).mono (fun r h c => ⟨?_, (h c).2⟩) (Cert.MergeIdeal.Value.run_blocks m g)
    rw [(h c).1, show Cert.MergeIdeal.cfg0.N = (Cert.MergeIdeal.cfgs 0).N from rfl, Cert.MergeIdeal.Block.final m c]
  · refine (θ_run _ _ _).mono (fun r h c => ⟨?_, (h c).2⟩) (Cert.MergeRefIdeal.Value.run m' g')
    obtain ⟨h0, h1, h2, h3, h4, h5, h6, h7, h8, h9, h10, h11⟩ := ha c
    rw [(h c).1, val_main_v67_eq, h0, h1, h2, h3, h4, h5, h6, h7, h8, h9, h10, h11]
    exact ref_eq _ _ _ _ _ _ _ _ _ _ _ _

end Cert.MergeClaim

end

end
-- ==== Proof.PleBlock.lean ====
/- The array the per-layer-embedding kernel leaves. -/
module

public import proofs.«01_k».proof.Proof.Gen.PleIdeal.Value
public import proofs.«01_k».proof.Proof.Dense
public import Idealize.ShloMosaic.Lib.Pipeline.ValueKit

@[expose] public section

set_option maxRecDepth 16384

noncomputable section

namespace Cert.PleIdeal.Block

open Cert.PleIdeal Cert.PleIdeal.Gen Idealize.ShloMosaic Idealize.ShloMosaic.TcCoe Idealize.SL.Sem Cert.Dense
open Idealize.ShloMosaic.Pipeline (Dat)

section formula
variable (H : FVec Ideal S8192x4096 .f32) (P : FVec Ideal S1x4x8192x256 .f32) (G : FVec Ideal S1x1024 .f32)
  (WG : FVec Ideal S1x1024x1024 .f32) (WP : FVec Ideal S1x256x1024 .f32) (FG : FVec Ideal S1024 .f32)

/-- Entry `j` of batch `b`'s token `t` of the token-major `H`. -/
def row (b : Fin 4) (t : Fin 8192) (j : Fin 1024) : EReal := H (ix2 t (⟨b.val * 1024 + j.val, by omega⟩ : Fin 4096))

/-- The hidden state after the layer's embedding has been added through its gate. -/
def hid (b : Fin 4) (t : Fin 8192) (j : Fin 1024) : EReal :=
  row H b t j + (∑ f, P (ix4 0 b t f) * WP (ix3 0 f j))
    * logi (∑ k, nrm (row H b t) (fun l => G (ix2 0 l)) k * WG (ix3 0 k j))

/-- Entry `j` of the result for batch `b`'s token `t`: the normed hidden state. -/
def at_ (b : Fin 4) (t : Fin 8192) (j : Fin 1024) : EReal :=
  nrm (hid H P G WG WP b t) (fun l => FG (ix1 l)) j

/-- The result as an array. -/
def OUT : FVec Ideal S4x8192x1024 .f32 := fun i => at_ H P G WG WP FG (i 0) (i 1) (i 2)

end formula

variable (m : (ℓ : Loc nD τ sig) → Buf (Elt Ideal) ℓ)

/-- The block index of every window at grid point `t`. -/
theorem idx_val : ∀ t : Fin cfg0.N, win0_0.index t = ![t.val % 16, t.val / 16] ∧ win0_1.index t = ![t.val / 16, t.val % 16, 0]
    ∧ win0_2.index t = ![0, 0] ∧ win0_3.index t = ![0, 0] ∧ win0_4.index t = ![0, 0] ∧ win0_5.index t = ![0, 0]
    ∧ win0_6.index t = ![t.val / 16, t.val % 16, 0] ∧ t.val / 16 < 4 :=
  (by decide +kernel : ∀ t : Fin grid0.N, win0_0.index t = ![t.val % 16, t.val / 16] ∧ win0_1.index t = ![t.val / 16, t.val % 16, 0]
    ∧ win0_2.index t = ![0, 0] ∧ win0_3.index t = ![0, 0] ∧ win0_4.index t = ![0, 0] ∧ win0_5.index t = ![0, 0]
    ∧ win0_6.index t = ![t.val / 16, t.val % 16, 0] ∧ t.val / 16 < 4)

/-- What grid point `t` leaves at entry `y` of its output block. -/
theorem point (c : Dev nD) (t : Fin cfg0.N) (y : S1x512x1024.Idx) :
    out0_6 (iblk m c 0 t) (iblk m c 1 t) (iblk m c 2 t) (iblk m c 3 t) (iblk m c 4 t) (iblk m c 5 t) y
    = OUT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 6).blk t).view.emb y) := by
  obtain ⟨a, j, rfl⟩ : ∃ (a : Fin 512) (j : Fin 1024), y = ix3 0 a j := ⟨y 1, y 2, by
    funext e; fin_cases e
    · exact Fin.ext (show (y 0).val = 0 from Nat.lt_one_iff.mp (y 0).isLt)
    · rfl
    · rfl⟩
  obtain ⟨b, hb⟩ : ∃ b : Fin 4, b.val = t.val / 16 := ⟨⟨t.val / 16, (idx_val t).2.2.2.2.2.2.2⟩, rfl⟩
  obtain ⟨r, hr⟩ : ∃ r : Fin 8192, r.val = t.val % 16 * 512 + a.val := ⟨⟨t.val % 16 * 512 + a.val, by omega⟩, rfl⟩
  have he : ((cfg0.win 6).blk t).view.emb (ix3 0 a j) = ix3 b r j := by
    blk_ext [idx_val t]
  have h2 : ∀ j : Fin 1024, k0_pay2 (iblk m c 0 t) (iblk m c 2 t) (iblk m c 3 t) (iblk m c 1 t) (iblk m c 4 t) (ix2 a j)
      = hid (m ((c : Thread nD τ).loc main_arg0)) (m ((c : Thread nD τ).loc main_arg1)) (m ((c : Thread nD τ).loc main_arg2))
        (m ((c : Thread nD τ).loc main_arg3)) (m ((c : Thread nD τ).loc main_arg4)) b r j := by
    intro j
    pointwise [k0_pay2]
    simp only [zero_sub, hid, row, nrm, logi]
    blk_point [iblk, V, idx_val t]
  rw [he]
  unfold OUT at_
  frame_out
  pointwise [k0_pay1, k0_pay3, k0_pay4]
  simp only [h2]
  clear h2
  simp only [nrm]
  generalize hid (m ((c : Thread nD τ).loc main_arg0)) (m ((c : Thread nD τ).loc main_arg1)) (m ((c : Thread nD τ).loc main_arg2))
    (m ((c : Thread nD τ).loc main_arg3)) (m ((c : Thread nD τ).loc main_arg4)) b r = z
  blk_point [iblk, V, idx_val t]

/-- The array after the run. -/
theorem final (c : Dev nD) : (dats m 0 c).arrAt 6 (cfgs 0).N
    = OUT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  exact point m c t y

end Cert.PleIdeal.Block

end

end
-- ==== Proof.PleClaim.lean ====
/- The value claim of the per-layer embedding and the final norm: the array the kernel leaves is the reference's. -/
module

public import proofs.«01_k».proof.Defs
public import proofs.«01_k».proof.Proof.PleBlock
public import proofs.«01_k».proof.Proof.Gen.PleRefIdeal.Run
public import proofs.«01_k».proof.Proof.Gen.PleRefIdeal.Read

@[expose] public section

set_option maxRecDepth 16384

noncomputable section

namespace Cert.PleClaim

open Idealize.ShloMosaic Idealize.SL.Sem Cert.PleRefIdeal.Read Cert.Dense
open Cert.PleIdeal.Block (OUT at_ hid row)

variable (H : FVec Ideal Cert.PleRefIdeal.S8192x4096 .f32) (P : FVec Ideal Cert.PleRefIdeal.S1x4x8192x256 .f32)
  (G : FVec Ideal Cert.PleRefIdeal.S1x1024 .f32) (WG : FVec Ideal Cert.PleRefIdeal.S1x1024x1024 .f32)
  (WP : FVec Ideal Cert.PleRefIdeal.S1x256x1024 .f32) (FG : FVec Ideal Cert.PleRefIdeal.S1024 .f32)

/-- The reference's normed rows. -/
theorem norm_val (b : Fin 4) (t : Fin 8192) (j : Fin 1024) :
    val_main_v18 (F := Ideal) H G (ix3 b t j) = nrm (row H b t) (fun l => G (ix2 0 l)) j := by
  simp only [nrm, row]
  pointwise [val_main_v0, val_main_v1, val_main_v5, val_main_v6, val_main_cst, val_main_v7, val_main_v8, val_main_cst_0, val_main_v9,
    val_main_v10, val_main_cst_1, val_main_v11, val_main_v12, val_main_v13, val_main_v14, val_main_v15, val_main_v16, val_main_v17,
    val_main_v18]

/-- The reference's hidden state. -/
theorem hid_val (b : Fin 4) (t : Fin 8192) (j : Fin 1024) :
    val_main_v28 (F := Ideal) H P G WG WP (ix3 b t j) = hid H P G WG WP b t j := by
  have hn := fun b t j => norm_val H G b t j
  simp only [hid, ← hn]
  generalize hN : val_main_v18 (F := Ideal) H G = N at hn
  simp only [row, logi]
  pointwise [val_main_v0, val_main_v1, val_main_v2, val_main_v3, val_main_v4, val_main_v19, val_main_v20, val_main_v21, val_main_v22,
    val_main_cst_2, val_main_v23, val_main_v24, val_main_cst_3, val_main_v25, val_main_v26, val_main_v27, val_main_v28]
  simp only [hN]

/-- The reference's array is the formula. -/
theorem ref_eq : val_main_v41 (F := Ideal) H P G WG WP FG = OUT H P G WG WP FG := by
  funext i
  obtain ⟨b, t, j, rfl⟩ : ∃ (b : Fin 4) (t : Fin 8192) (j : Fin 1024), i = ix3 b t j :=
    ⟨i 0, i 1, i 2, by funext a; fin_cases a <;> rfl⟩
  have hh := fun b t j => hid_val H P G WG WP b t j
  unfold OUT at_
  simp only [nrm]
  show _ = hid H P G WG WP b t j * Ideal.rsqrt (Ideal.div (∑ x, hid H P G WG WP b t x * hid H P G WG WP b t x) _ + _) * _
  simp only [← hh]
  generalize hN : val_main_v28 (F := Ideal) H P G WG WP = N at hh
  pointwise [val_main_v29, val_main_cst_4, val_main_v30, val_main_v31, val_main_cst_5, val_main_v32, val_main_v33, val_main_cst_6,
    val_main_v34, val_main_v35, val_main_v36, val_main_v37, val_main_v38, val_main_v39, val_main_v40, val_main_v41]
  simp only [hN]

/-- The reference ends with its arguments unchanged and every counter at zero. -/
theorem ref_frame : Cert.quiescent_PleRefIdeal (hPleRefIdeal := Cert.PleRefIdeal.Gen.facts) := fun m g _ =>
  (θ_run Cert.PleRefIdeal.defs _ _).mono (fun r h => ⟨fun c => (h c).2, sem_eq_zero_of_no_sems (by decide) r.2⟩)
    (Cert.PleRefIdeal.Value.run (F := Ideal) m g)

/-- The kernel and the reference, run from the same arguments, leave the same array. -/
theorem algebraic : Cert.algebraic_PleIdeal_PleRefIdeal (hPleIdeal := Cert.PleIdeal.Gen.facts)
    (hPleRefIdeal := Cert.PleRefIdeal.Gen.facts) := by
  intro m g m' g' hp ha
  refine ⟨fun c => OUT (m ((c.tc : Thread Cert.PleIdeal.nD Cert.PleIdeal.τ).loc Cert.PleIdeal.main_arg0))
      (m ((c.tc : Thread Cert.PleIdeal.nD Cert.PleIdeal.τ).loc Cert.PleIdeal.main_arg1))
      (m ((c.tc : Thread Cert.PleIdeal.nD Cert.PleIdeal.τ).loc Cert.PleIdeal.main_arg2))
      (m ((c.tc : Thread Cert.PleIdeal.nD Cert.PleIdeal.τ).loc Cert.PleIdeal.main_arg3))
      (m ((c.tc : Thread Cert.PleIdeal.nD Cert.PleIdeal.τ).loc Cert.PleIdeal.main_arg4))
      (m ((c.tc : Thread Cert.PleIdeal.nD Cert.PleIdeal.τ).loc Cert.PleIdeal.main_arg5)), ?_, ?_⟩
  · refine (θ_run _ _ _).mono (fun r h c => ⟨?_, (h c).2⟩) (Cert.PleIdeal.Value.run_blocks m g)
    rw [(h c).1, show Cert.PleIdeal.cfg0.N = (Cert.PleIdeal.cfgs 0).N from rfl, Cert.PleIdeal.Block.final m c]
  · refine (θ_run _ _ _).mono (fun r h c => ⟨?_, (h c).2⟩) (Cert.PleRefIdeal.Value.run m' g')
    obtain ⟨h0, h1, h2, h3, h4, h5⟩ := ha c
    rw [(h c).1, val_main_v41_eq, h0, h1, h2, h3, h4, h5]
    exact ref_eq _ _ _ _ _ _

end Cert.PleClaim

end
-- ==== Proof.Ffn2Block.lean ====
/- The array the second feed-forward call leaves: its operand is token-major, its formula is the first call's. -/
module

public import proofs.«01_k».proof.Proof.Gen.Ffn2Ideal.Value
public import proofs.«01_k».proof.Proof.FfnBlock
public import Idealize.ShloMosaic.Lib.Pipeline.ValueKit

@[expose] public section

set_option maxRecDepth 16384

noncomputable section

namespace Cert.Ffn2Ideal.Block

open Cert.Ffn2Ideal Cert.Ffn2Ideal.Gen Idealize.ShloMosaic Idealize.ShloMosaic.TcCoe Idealize.SL.Sem Cert.Dense
open Idealize.ShloMosaic.Pipeline (Dat)
open Cert.FfnIdeal.Block (OUT at_ unitAt)

/-- A token-major array in batch-major order: column `1024 b + j` of token `t` is entry `j` of batch `b`'s token `t`. -/
def wide (H : FVec Ideal S8192x4096 .f32) : FVec Ideal Cert.FfnIdeal.S4x8192x1024 .f32 := fun i =>
  H (ix2 ⟨(i 1).val, (i 1).isLt⟩ ⟨(i 0).val * 1024 + (i 2).val, by
    have h0 : (i 0).val < 4 := (i 0).isLt
    have h2 : (i 2).val < 1024 := (i 2).isLt
    omega⟩)

/-- `wide` at an index given by its parts. -/
theorem wide_ix3 (H : FVec Ideal S8192x4096 .f32) (b : Fin 4) (t : Fin 8192) (j : Fin 1024) :
    wide H (ix3 b t j) = H (ix2 t (⟨b.val * 1024 + j.val, by omega⟩ : Fin 4096)) := rfl

variable (m : (ℓ : Loc nD τ sig) → Buf (Elt Ideal) ℓ)

/-- The block index of every window at grid point `t`. -/
theorem idx_val : ∀ t : Fin cfg0.N, win0_0.index t = ![t.val % 16, t.val / 16] ∧ win0_1.index t = ![0, 0]
    ∧ win0_2.index t = ![0, 0] ∧ win0_3.index t = ![0, 0] ∧ win0_4.index t = ![0, 0]
    ∧ win0_5.index t = ![t.val % 16, t.val / 16] ∧ t.val / 16 < 4 :=
  (by decide +kernel : ∀ t : Fin grid0.N, win0_0.index t = ![t.val % 16, t.val / 16] ∧ win0_1.index t = ![0, 0]
    ∧ win0_2.index t = ![0, 0] ∧ win0_3.index t = ![0, 0] ∧ win0_4.index t = ![0, 0]
    ∧ win0_5.index t = ![t.val % 16, t.val / 16] ∧ t.val / 16 < 4)

/-- What grid point `t` leaves at entry `y` of its output block. -/
theorem point (c : Dev nD) (t : Fin cfg0.N) (y : S512x1024.Idx) :
    out0_5 (iblk m c 0 t) (iblk m c 1 t) (iblk m c 2 t) (iblk m c 3 t) (iblk m c 4 t) y
    = OUT (wide (m ((c : Thread nD τ).loc main_arg0))) (m ((c : Thread nD τ).loc main_arg1)) (m ((c : Thread nD τ).loc main_arg2))
        (m ((c : Thread nD τ).loc main_arg3)) (m ((c : Thread nD τ).loc main_arg4)) (((cfg0.win 5).blk t).view.emb y) := by
  obtain ⟨a, j, rfl⟩ : ∃ (a : Fin 512) (j : Fin 1024), y = ix2 a j := ⟨y 0, y 1, by funext e; fin_cases e <;> rfl⟩
  obtain ⟨b, hb⟩ : ∃ b : Fin 4, b.val = t.val / 16 := ⟨⟨t.val / 16, (idx_val t).2.2.2.2.2.2⟩, rfl⟩
  obtain ⟨r, hr⟩ : ∃ r : Fin 8192, r.val = t.val % 16 * 512 + a.val := ⟨⟨t.val % 16 * 512 + a.val, by omega⟩, rfl⟩
  have he : ((cfg0.win 5).blk t).view.emb (ix2 a j) = ix2 r (⟨b.val * 1024 + j.val, by omega⟩ : Fin 4096) := by
    blk_ext [idx_val t]
  have ho : OUT (wide (m ((c : Thread nD τ).loc main_arg0))) (m ((c : Thread nD τ).loc main_arg1)) (m ((c : Thread nD τ).loc main_arg2))
        (m ((c : Thread nD τ).loc main_arg3)) (m ((c : Thread nD τ).loc main_arg4)) (((cfg0.win 5).blk t).view.emb (ix2 a j))
      = at_ (wide (m ((c : Thread nD τ).loc main_arg0))) (m ((c : Thread nD τ).loc main_arg1)) (m ((c : Thread nD τ).loc main_arg2))
        (m ((c : Thread nD τ).loc main_arg3)) (m ((c : Thread nD τ).loc main_arg4)) b r j := by
    rw [he]
    unfold OUT
    congr 1
    · exact Fin.ext (show (b.val * 1024 + j.val) / 1024 = b.val by omega)
    · exact Fin.ext (show (b.val * 1024 + j.val) % 1024 = j.val by omega)
  rw [ho]
  unfold at_
  rw [Fin.sum_univ_two_halves 1536 1280 rfl]
  frame_out
  pointwise [k0_pay1, k0_pay2, k0_pay3, k0_pay4]
  simp only [zero_sub, unitAt, nrm, logi, wide_ix3]
  blk_point [iblk, V, idx_val t]

/-- The array after the run. -/
theorem final (c : Dev nD) : (dats m 0 c).arrAt 5 (cfgs 0).N
    = OUT (wide (m ((c : Thread nD τ).loc main_arg0))) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Cert.Ffn2Ideal.Block

end

end
-- ==== Proof.Ffn2Claim.lean ====
/- The value claim of the second feed-forward call: the array the kernel leaves is the reference's. -/
module

public import proofs.«01_k».proof.Defs
public import proofs.«01_k».proof.Proof.Ffn2Block
public import proofs.«01_k».proof.Proof.Gen.Ffn2RefIdeal.Run
public import proofs.«01_k».proof.Proof.Gen.Ffn2RefIdeal.Read

@[expose] public section

set_option maxRecDepth 16384

noncomputable section

namespace Cert.Ffn2Claim

open Idealize.ShloMosaic Idealize.SL.Sem Cert.Ffn2RefIdeal.Read Cert.Dense
open Cert.FfnIdeal.Block (OUT at_ unitAt)
open Cert.Ffn2Ideal.Block (wide wide_ix3)

variable (H : FVec Ideal Cert.Ffn2RefIdeal.S8192x4096 .f32) (G : FVec Ideal Cert.Ffn2RefIdeal.S1x1024 .f32)
  (WG WU : FVec Ideal Cert.Ffn2RefIdeal.S1x1024x2816 .f32) (WD : FVec Ideal Cert.Ffn2RefIdeal.S1x2816x1024 .f32)

/-- The reference's normed rows. -/
theorem norm_val (b : Fin 4) (t : Fin 8192) (j : Fin 1024) :
    val_main_v15 (F := Ideal) H G (ix3 b t j) = nrm (fun l => wide H (ix3 b t l)) (fun l => G (ix2 0 l)) j := by
  simp only [nrm, wide_ix3]
  pointwise [val_main_v0, val_main_v1, val_main_v2, val_main_v3, val_main_cst, val_main_v4, val_main_v5, val_main_v6, val_main_cst_0, val_main_v7, val_main_v8,
    val_main_cst_1, val_main_v9, val_main_v10, val_main_v11, val_main_v12, val_main_v13, val_main_v14, val_main_v15]

/-- The reference's array is the formula. -/
theorem ref_eq : val_main_v28 (F := Ideal) H G WG WU WD = OUT (wide H) G WG WU WD := by
  funext i
  obtain ⟨t, c, rfl⟩ : ∃ (t : Fin 8192) (c : Fin 4096), i = ix2 t c := ⟨i 0, i 1, by funext a; fin_cases a <;> rfl⟩
  have hn := fun b t j => norm_val H G b t j
  generalize hN : val_main_v15 (F := Ideal) H G = N at hn
  pointwise [val_main_v0, val_main_v1, val_main_v28, val_main_v27, val_main_v26, val_main_v25, val_main_v24, val_main_v23, val_main_cst_2, val_main_v22,
    val_main_v21, val_main_v20, val_main_call0_v5, val_main_call0_v4, val_main_call0_v3, val_main_call0_v2, val_main_call0_v1,
    val_main_call0_v0, val_main_call0_cst, val_main_call0_cst_0, val_main_v19, val_main_v18, val_main_v17, val_main_v16]
  simp only [hN, hn]
  have hc : wide H (ix3 (⟨c.val / 1024, by omega⟩ : Fin 4) t (⟨c.val % 1024, by omega⟩ : Fin 1024)) = H (ix2 t c) := by
    rw [wide_ix3]
    exact congrArg (fun e => H (ix2 t e)) (Fin.ext (show c.val / 1024 * 1024 + c.val % 1024 = c.val by omega))
  rw [← hc]
  rfl

/-- The reference ends with its arguments unchanged and every counter at zero. -/
theorem ref_frame : Cert.quiescent_Ffn2RefIdeal (hFfn2RefIdeal := Cert.Ffn2RefIdeal.Gen.facts) := fun m g _ =>
  (θ_run Cert.Ffn2RefIdeal.defs _ _).mono (fun r h => ⟨fun c => (h c).2, sem_eq_zero_of_no_sems (by decide) r.2⟩)
    (Cert.Ffn2RefIdeal.Value.run (F := Ideal) m g)

/-- The kernel and the reference, run from the same arguments, leave the same array. -/
theorem algebraic : Cert.algebraic_Ffn2Ideal_Ffn2RefIdeal (hFfn2Ideal := Cert.Ffn2Ideal.Gen.facts)
    (hFfn2RefIdeal := Cert.Ffn2RefIdeal.Gen.facts) := by
  intro m g m' g' hp ha
  refine ⟨fun c => OUT (wide (m ((c.tc : Thread Cert.Ffn2Ideal.nD Cert.Ffn2Ideal.τ).loc Cert.Ffn2Ideal.main_arg0)))
      (m ((c.tc : Thread Cert.Ffn2Ideal.nD Cert.Ffn2Ideal.τ).loc Cert.Ffn2Ideal.main_arg1))
      (m ((c.tc : Thread Cert.Ffn2Ideal.nD Cert.Ffn2Ideal.τ).loc Cert.Ffn2Ideal.main_arg2))
      (m ((c.tc : Thread Cert.Ffn2Ideal.nD Cert.Ffn2Ideal.τ).loc Cert.Ffn2Ideal.main_arg3))
      (m ((c.tc : Thread Cert.Ffn2Ideal.nD Cert.Ffn2Ideal.τ).loc Cert.Ffn2Ideal.main_arg4)), ?_, ?_⟩
  · refine (θ_run _ _ _).mono (fun r h c => ⟨?_, (h c).2⟩) (Cert.Ffn2Ideal.Value.run_blocks m g)
    rw [(h c).1, show Cert.Ffn2Ideal.cfg0.N = (Cert.Ffn2Ideal.cfgs 0).N from rfl, Cert.Ffn2Ideal.Block.final m c]
  · refine (θ_run _ _ _).mono (fun r h c => ⟨?_, (h c).2⟩) (Cert.Ffn2RefIdeal.Value.run m' g')
    obtain ⟨h0, h1, h2, h3, h4⟩ := ha c
    rw [(h c).1, val_main_v28_eq, h0, h1, h2, h3, h4]
    exact ref_eq _ _ _ _ _

end Cert.Ffn2Claim

end
-- ==== Proof.lean ====
/- The proof of the claims of this certificate. The frames of the kernels are the ones the generated modules prove; the
   value claims and the frames of the references are put together in one module per call (`AttnClaim`, `FfnClaim`, `InprojClaim`, `MergeClaim`, `PleClaim`, `Ffn2Claim`). -/
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.AttnIdeal.Value
public import proofs.«01_k».proof.Proof.Gen.AttnRefIdeal.Run
public import proofs.«01_k».proof.Proof.Gen.AttnRefIdeal.Read
public import proofs.«01_k».proof.Proof.AttnClaim
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.FfnClaim
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojRefIdeal
public import proofs.«01_k».proof.Proof.Gen.InprojIdeal.Value
public import proofs.«01_k».proof.Proof.Gen.InprojRefIdeal.Run
public import proofs.«01_k».proof.Proof.Gen.InprojRefIdeal.Read
public import proofs.«01_k».proof.Proof.InprojClaim
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.MergeRefIdeal.Read
public import proofs.«01_k».proof.Proof.MergeClaim
public import proofs.«01_k».proof.Proof.Gen.Ple
public import proofs.«01_k».proof.Proof.Gen.Ple.Frame
public import proofs.«01_k».proof.Proof.Gen.PleIdeal
public import proofs.«01_k».proof.Proof.Gen.PleIdeal.Frame
public import proofs.«01_k».proof.Proof.Gen.PleRefIdeal
public import proofs.«01_k».proof.Proof.Gen.PleIdeal.Value
public import proofs.«01_k».proof.Proof.Gen.PleRefIdeal.Run
public import proofs.«01_k».proof.Proof.Gen.PleRefIdeal.Read
public import proofs.«01_k».proof.Proof.PleClaim
public import proofs.«01_k».proof.Proof.Gen.Ffn2
public import proofs.«01_k».proof.Proof.Gen.Ffn2.Frame
public import proofs.«01_k».proof.Proof.Gen.Ffn2Ideal
public import proofs.«01_k».proof.Proof.Gen.Ffn2Ideal.Frame
public import proofs.«01_k».proof.Proof.Gen.Ffn2RefIdeal
public import proofs.«01_k».proof.Proof.Gen.Ffn2Ideal.Value
public import proofs.«01_k».proof.Proof.Gen.Ffn2RefIdeal.Run
public import proofs.«01_k».proof.Proof.Gen.Ffn2RefIdeal.Read
public import proofs.«01_k».proof.Proof.Ffn2Claim
public import Idealize.ShloMosaic.Adequacy
public import Idealize.ShloMosaic.Init

@[expose] public section

noncomputable section

namespace Cert.Proof

open Idealize.ShloMosaic Idealize.SL.Sem

/-- Every claim. -/
theorem claim : Cert.Claim :=
  ⟨Cert.Attn.Gen.facts, Cert.AttnIdeal.Gen.facts, Cert.AttnRefIdeal.Gen.facts,
    Cert.Ffn.Gen.facts, Cert.FfnIdeal.Gen.facts, Cert.FfnRefIdeal.Gen.facts,
    Cert.Inproj.Gen.facts, Cert.InprojIdeal.Gen.facts, Cert.InprojRefIdeal.Gen.facts,
    Cert.Merge.Gen.facts, Cert.MergeIdeal.Gen.facts, Cert.MergeRefIdeal.Gen.facts,
    Cert.Ple.Gen.facts, Cert.PleIdeal.Gen.facts, Cert.PleRefIdeal.Gen.facts,
    Cert.Ffn2.Gen.facts, Cert.Ffn2Ideal.Gen.facts, Cert.Ffn2RefIdeal.Gen.facts,
    Cert.AttnJoin.preFacts,
    fun m g _ => Cert.Attn.Gen.frame m g, fun m g _ => Cert.AttnIdeal.Gen.frame m g,
    fun m g _ => Cert.AttnIdeal.Gen.frame m g, Cert.AttnClaim.ref_frame, fun m g _ => Cert.AttnClaim.ref_frame m g trivial,
    fun m g _ => Cert.Ffn.Gen.frame m g, fun m g _ => Cert.FfnIdeal.Gen.frame m g, Cert.FfnClaim.ref_frame,
    fun m g _ => Cert.Inproj.Gen.frame m g, fun m g _ => Cert.InprojIdeal.Gen.frame m g, Cert.InprojClaim.ref_frame,
    fun m g _ => Cert.Merge.Gen.frame m g, fun m g _ => Cert.MergeIdeal.Gen.frame m g, Cert.MergeClaim.ref_frame,
    fun m g _ => Cert.Ple.Gen.frame m g, fun m g _ => Cert.PleIdeal.Gen.frame m g, Cert.PleClaim.ref_frame,
    fun m g _ => Cert.Ffn2.Gen.frame m g, fun m g _ => Cert.Ffn2Ideal.Gen.frame m g, Cert.Ffn2Claim.ref_frame,
    trivial, Cert.AttnClaim.algebraic,
    trivial, Cert.FfnClaim.algebraic,
    trivial, Cert.InprojClaim.algebraic,
    trivial, Cert.MergeClaim.algebraic,
    trivial, Cert.PleClaim.algebraic,
    trivial, Cert.Ffn2Claim.algebraic⟩

end Cert.Proof

end
